-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x300x768 : Shape := ⟨3, ![32, 300, 768]⟩
abbrev S768 : Shape := ⟨1, ![768]⟩
abbrev S300x768 : Shape := ⟨2, ![300, 768]⟩
abbrev S4x16x300 : Shape := ⟨3, ![4, 16, 300]⟩
abbrev S300x64 : Shape := ⟨2, ![300, 64]⟩
abbrev S300 : Shape := ⟨1, ![300]⟩
abbrev S300x8 : Shape := ⟨2, ![300, 8]⟩
abbrev S8x600x300 : Shape := ⟨3, ![8, 600, 300]⟩
abbrev S8x600 : Shape := ⟨2, ![8, 600]⟩
abbrev S8x300x600 : Shape := ⟨3, ![8, 300, 600]⟩
abbrev S8x300 : Shape := ⟨2, ![8, 300]⟩
abbrev S_ : Shape := ⟨0, ![]⟩

class Facts : Prop where
  bcast_S_S32x300x768 : S_.BroadcastsInDim S32x300x768 (![] : Fin 0 → Fin S32x300x768.rank)
  bcast_S_S768 : S_.BroadcastsInDim S768 (![] : Fin 0 → Fin S768.rank)
  bcast_S_S300x768 : S_.BroadcastsInDim S300x768 (![] : Fin 0 → Fin S300x768.rank)
  bcast_S_S4x16x300 : S_.BroadcastsInDim S4x16x300 (![] : Fin 0 → Fin S4x16x300.rank)
  bcast_S_S300x64 : S_.BroadcastsInDim S300x64 (![] : Fin 0 → Fin S300x64.rank)
  bcast_S_S300 : S_.BroadcastsInDim S300 (![] : Fin 0 → Fin S300.rank)
  bcast_S_S300x8 : S_.BroadcastsInDim S300x8 (![] : Fin 0 → Fin S300x8.rank)
  bcast_S_S8x600x300 : S_.BroadcastsInDim S8x600x300 (![] : Fin 0 → Fin S8x600x300.rank)
  bcast_S_S8x600 : S_.BroadcastsInDim S8x600 (![] : Fin 0 → Fin S8x600.rank)
  bcast_S_S8x300x600 : S_.BroadcastsInDim S8x300x600 (![] : Fin 0 → Fin S8x300x600.rank)
  bcast_S_S8x300 : S_.BroadcastsInDim S8x300 (![] : Fin 0 → Fin S8x300.rank)

variable [Facts]

def fn_part2 {F : FTy → Type} [FloatOps F] (main_arg12 : FVec F S8x300 .f32) (main_v2 : IVec S32x300x768 1) (main_v5 : IVec S768 1) (main_v8 : IVec S300x768 1) (main_v11 : IVec S4x16x300 1) (main_v14 : IVec S4x16x300 1) (main_v17 : IVec S4x16x300 1) (main_v20 : IVec S300x64 1) (main_v23 : IVec S300 1) (main_v26 : IVec S300x8 1) (main_v29 : IVec S8x600x300 1) (main_v32 : IVec S8x600 1) (main_v35 : IVec S8x300x600 1) : IVec S32x300x768 1 × IVec S768 1 × IVec S300x768 1 × IVec S4x16x300 1 × IVec S4x16x300 1 × IVec S4x16x300 1 × IVec S300x64 1 × IVec S300 1 × IVec S300x8 1 × IVec S8x600x300 1 × IVec S8x600 1 × IVec S8x300x600 1 × IVec S8x300 1 :=
  let main_v36 : FVec F S8x300 .f32 := Host.absf main_arg12
  let main_cst_11 : FVec F S_ .f32 := constant S_ .f32 0x7F800000#32
  let main_v37 : FVec F S8x300 .f32 := broadcastInDim S8x300 ![] bcast_S_S8x300 main_cst_11
  let main_v38 : IVec S8x300 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S300x64 .f32) (main_arg7 : FVec F S300 .f32) (main_arg8 : FVec F S300x8 .f32) (main_arg9 : FVec F S8x600x300 .f32) (main_arg10 : FVec F S8x600 .f32) (main_arg11 : FVec F S8x300x600 .f32) (main_arg12 : FVec F S8x300 .f32) (main_v2 : IVec S32x300x768 1) (main_v5 : IVec S768 1) (main_v8 : IVec S300x768 1) (main_v11 : IVec S4x16x300 1) (main_v14 : IVec S4x16x300 1) (main_v17 : IVec S4x16x300 1) : IVec S32x300x768 1 × IVec S768 1 × IVec S300x768 1 × IVec S4x16x300 1 × IVec S4x16x300 1 × IVec S4x16x300 1 × IVec S300x64 1 × IVec S300 1 × IVec S300x8 1 × IVec S8x600x300 1 × IVec S8x600 1 × IVec S8x300x600 1 × IVec S8x300 1 :=
  let main_v18 : FVec F S300x64 .f32 := Host.absf main_arg6
  let main_cst_5 : FVec F S_ .f32 := constant S_ .f32 0x7F800000#32
  let main_v19 : FVec F S300x64 .f32 := broadcastInDim S300x64 ![] bcast_S_S300x64 main_cst_5
  let main_v20 : IVec S300x64 1 := cmpf .olt main_v18 main_v19
  let main_v21 : FVec F S300 .f32 := Host.absf main_arg7
  let main_cst_6 : FVec F S_ .f32 := constant S_ .f32 0x7F800000#32
  let main_v22 : FVec F S300 .f32 := broadcastInDim S300 ![] bcast_S_S300 main_cst_6
  let main_v23 : IVec S300 1 := cmpf .olt main_v21 main_v22
  let main_v24 : FVec F S300x8 .f32 := Host.absf main_arg8
  let main_cst_7 : FVec F S_ .f32 := constant S_ .f32 0x7F800000#32
  let main_v25 : FVec F S300x8 .f32 := broadcastInDim S300x8 ![] bcast_S_S300x8 main_cst_7
  let main_v26 : IVec S300x8 1 := cmpf .olt main_v24 main_v25
  let main_v27 : FVec F S8x600x300 .f32 := Host.absf main_arg9
  let main_cst_8 : FVec F S_ .f32 := constant S_ .f32 0x7F800000#32
  let main_v28 : FVec F S8x600x300 .f32 := broadcastInDim S8x600x300 ![] bcast_S_S8x600x300 main_cst_8
  let main_v29 : IVec S8x600x300 1 := cmpf .olt main_v27 main_v28
  let main_v30 : FVec F S8x600 .f32 := Host.absf main_arg10
  let main_cst_9 : FVec F S_ .f32 := constant S_ .f32 0x7F800000#32
  let main_v31 : FVec F S8x600 .f32 := broadcastInDim S8x600 ![] bcast_S_S8x600 main_cst_9
  let main_v32 : IVec S8x600 1 := cmpf .olt main_v30 main_v31
  let main_v33 : FVec F S8x300x600 .f32 := Host.absf main_arg11
  let main_cst_10 : FVec F S_ .f32 := constant S_ .f32 0x7F800000#32
  let main_v34 : FVec F S8x300x600 .f32 := broadcastInDim S8x300x600 ![] bcast_S_S8x300x600 main_cst_10
  let main_v35 : IVec S8x300x600 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S32x300x768 .f32) (main_arg1 : FVec F S768 .f32) (main_arg2 : FVec F S300x768 .f32) (main_arg3 : FVec F S4x16x300 .f32) (main_arg4 : FVec F S4x16x300 .f32) (main_arg5 : FVec F S4x16x300 .f32) (main_arg6 : FVec F S300x64 .f32) (main_arg7 : FVec F S300 .f32) (main_arg8 : FVec F S300x8 .f32) (main_arg9 : FVec F S8x600x300 .f32) (main_arg10 : FVec F S8x600 .f32) (main_arg11 : FVec F S8x300x600 .f32) (main_arg12 : FVec F S8x300 .f32) : IVec S32x300x768 1 × IVec S768 1 × IVec S300x768 1 × IVec S4x16x300 1 × IVec S4x16x300 1 × IVec S4x16x300 1 × IVec S300x64 1 × IVec S300 1 × IVec S300x8 1 × IVec S8x600x300 1 × IVec S8x600 1 × IVec S8x300x600 1 × IVec S8x300 1 :=
  let main_v0 : FVec F S32x300x768 .f32 := Host.absf main_arg0
  let main_cst : FVec F S_ .f32 := constant S_ .f32 0x7F800000#32
  let main_v1 : FVec F S32x300x768 .f32 := broadcastInDim S32x300x768 ![] bcast_S_S32x300x768 main_cst
  let main_v2 : IVec S32x300x768 1 := cmpf .olt main_v0 main_v1
  let main_v3 : FVec F S768 .f32 := Host.absf main_arg1
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S300x768 .f32 := Host.absf main_arg2
  let main_cst_1 : FVec F S_ .f32 := constant S_ .f32 0x7F800000#32
  let main_v7 : FVec F S300x768 .f32 := broadcastInDim S300x768 ![] bcast_S_S300x768 main_cst_1
  let main_v8 : IVec S300x768 1 := cmpf .olt main_v6 main_v7
  let main_v9 : FVec F S4x16x300 .f32 := Host.absf main_arg3
  let main_cst_2 : FVec F S_ .f32 := constant S_ .f32 0x7F800000#32
  let main_v10 : FVec F S4x16x300 .f32 := broadcastInDim S4x16x300 ![] bcast_S_S4x16x300 main_cst_2
  let main_v11 : IVec S4x16x300 1 := cmpf .olt main_v9 main_v10
  let main_v12 : FVec F S4x16x300 .f32 := Host.absf main_arg4
  let main_cst_3 : FVec F S_ .f32 := constant S_ .f32 0x7F800000#32
  let main_v13 : FVec F S4x16x300 .f32 := broadcastInDim S4x16x300 ![] bcast_S_S4x16x300 main_cst_3
  let main_v14 : IVec S4x16x300 1 := cmpf .olt main_v12 main_v13
  let main_v15 : FVec F S4x16x300 .f32 := Host.absf main_arg5
  let main_cst_4 : FVec F S_ .f32 := constant S_ .f32 0x7F800000#32
  let main_v16 : FVec F S4x16x300 .f32 := broadcastInDim S4x16x300 ![] bcast_S_S4x16x300 main_cst_4
  let main_v17 : IVec S4x16x300 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S32x300x768 : Shape := ⟨3, ![32, 300, 768]⟩
abbrev S768 : Shape := ⟨1, ![768]⟩
abbrev S300x768 : Shape := ⟨2, ![300, 768]⟩
abbrev S4x16x300 : Shape := ⟨3, ![4, 16, 300]⟩
abbrev S300x64 : Shape := ⟨2, ![300, 64]⟩
abbrev S300 : Shape := ⟨1, ![300]⟩
abbrev S300x8 : Shape := ⟨2, ![300, 8]⟩
abbrev S8x600x300 : Shape := ⟨3, ![8, 600, 300]⟩
abbrev S8x600 : Shape := ⟨2, ![8, 600]⟩
abbrev S8x300x600 : Shape := ⟨3, ![8, 300, 600]⟩
abbrev S8x300 : Shape := ⟨2, ![8, 300]⟩
abbrev S64x300 : Shape := ⟨2, ![64, 300]⟩
abbrev S192x300 : Shape := ⟨2, ![192, 300]⟩
abbrev S1x768 : Shape := ⟨2, ![1, 768]⟩
abbrev S1x300 : Shape := ⟨2, ![1, 300]⟩
abbrev S32x300x300 : Shape := ⟨3, ![32, 300, 300]⟩
abbrev S4x300x768 : Shape := ⟨3, ![4, 300, 768]⟩
abbrev S4x300x300 : Shape := ⟨3, ![4, 300, 300]⟩
abbrev S300x300 : Shape := ⟨2, ![300, 300]⟩
abbrev S1x300x768 : Shape := ⟨3, ![1, 300, 768]⟩
abbrev S300x192 : Shape := ⟨2, ![300, 192]⟩
abbrev S300x16 : Shape := ⟨2, ![300, 16]⟩
abbrev S300x1 : Shape := ⟨2, ![300, 1]⟩
abbrev S1200x300 : Shape := ⟨2, ![1200, 300]⟩
abbrev S1200x8 : Shape := ⟨2, ![1200, 8]⟩
abbrev S1200x1 : Shape := ⟨2, ![1200, 1]⟩
abbrev S1200 : Shape := ⟨1, ![1200]⟩
abbrev S1x600x300 : Shape := ⟨3, ![1, 600, 300]⟩
abbrev S600x300 : Shape := ⟨2, ![600, 300]⟩
abbrev S1200x600 : Shape := ⟨2, ![1200, 600]⟩
abbrev S1x600 : Shape := ⟨2, ![1, 600]⟩
abbrev S1x300x600 : Shape := ⟨3, ![1, 300, 600]⟩
abbrev S300x600 : Shape := ⟨2, ![300, 600]⟩

abbrev nBuf : Space → Nat
  | .hbm => 27
  | .vmem => 14
  | .smem => 0
  | _ => 0

abbrev bufTy : (tb : Table) → Fin (tcTables nBuf tb) → BufTy
  | .hbm, ⟨0, _⟩ => ⟨S32x300x768, .f32⟩
  | .hbm, ⟨1, _⟩ => ⟨S768, .f32⟩
  | .hbm, ⟨2, _⟩ => ⟨S300x768, .f32⟩
  | .hbm, ⟨3, _⟩ => ⟨S4x16x300, .f32⟩
  | .hbm, ⟨4, _⟩ => ⟨S4x16x300, .f32⟩
  | .hbm, ⟨5, _⟩ => ⟨S4x16x300, .f32⟩
  | .hbm, ⟨6, _⟩ => ⟨S300x64, .f32⟩
  | .hbm, ⟨7, _⟩ => ⟨S300, .f32⟩
  | .hbm, ⟨8, _⟩ => ⟨S300x8, .f32⟩
  | .hbm, ⟨9, _⟩ => ⟨S8x600x300, .f32⟩
  | .hbm, ⟨10, _⟩ => ⟨S8x600, .f32⟩
  | .hbm, ⟨11, _⟩ => ⟨S8x300x600, .f32⟩
  | .hbm, ⟨12, _⟩ => ⟨S8x300, .f32⟩
  | .hbm, ⟨13, _⟩ => ⟨S64x300, .f32⟩
  | .hbm, ⟨14, _⟩ => ⟨S64x300, .f32⟩
  | .hbm, ⟨15, _⟩ => ⟨S64x300, .f32⟩
  | .hbm, ⟨16, _⟩ => ⟨S192x300, .f32⟩
  | .hbm, ⟨17, _⟩ => ⟨S1x768, .f32⟩
  | .hbm, ⟨18, _⟩ => ⟨S300x768, .bf16⟩
  | .hbm, ⟨19, _⟩ => ⟨S192x300, .bf16⟩
  | .hbm, ⟨20, _⟩ => ⟨S300x64, .bf16⟩
  | .hbm, ⟨21, _⟩ => ⟨S1x300, .f32⟩
  | .hbm, ⟨22, _⟩ => ⟨S300x8, .bf16⟩
  | .hbm, ⟨23, _⟩ => ⟨S8x600x300, .bf16⟩
  | .hbm, ⟨24, _⟩ => ⟨S8x600, .bf16⟩
  | .hbm, ⟨25, _⟩ => ⟨S8x300x600, .bf16⟩
  | .hbm, ⟨26, _⟩ => ⟨S32x300x300, .f32⟩
  | .local _ .vmem, ⟨0, _⟩ => ⟨S4x300x768, .f32⟩
  | .local _ .vmem, ⟨1, _⟩ => ⟨S4x300x768, .f32⟩
  | .local _ .vmem, ⟨2, _⟩ => ⟨S1x768, .f32⟩
  | .local _ .vmem, ⟨3, _⟩ => ⟨S300x768, .bf16⟩
  | .local _ .vmem, ⟨4, _⟩ => ⟨S192x300, .bf16⟩
  | .local _ .vmem, ⟨5, _⟩ => ⟨S300x64, .bf16⟩
  | .local _ .vmem, ⟨6, _⟩ => ⟨S1x300, .f32⟩
  | .local _ .vmem, ⟨7, _⟩ => ⟨S300x8, .bf16⟩
  | .local _ .vmem, ⟨8, _⟩ => ⟨S8x600x300, .bf16⟩
  | .local _ .vmem, ⟨9, _⟩ => ⟨S8x600, .bf16⟩
  | .local _ .vmem, ⟨10, _⟩ => ⟨S8x300x600, .bf16⟩
  | .local _ .vmem, ⟨11, _⟩ => ⟨S8x300, .f32⟩
  | .local _ .vmem, ⟨12, _⟩ => ⟨S4x300x300, .f32⟩
  | .local _ .vmem, ⟨13, _⟩ => ⟨S4x300x300, .f32⟩
  | _, _ => ⟨S32x300x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x300x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x600x300 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x600 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x300x600 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x300 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x300x300 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x300x768 : Shape := ⟨3, ![32, 300, 768]⟩
abbrev S768 : Shape := ⟨1, ![768]⟩
abbrev S300x768 : Shape := ⟨2, ![300, 768]⟩
abbrev S4x16x300 : Shape := ⟨3, ![4, 16, 300]⟩
abbrev S300x64 : Shape := ⟨2, ![300, 64]⟩
abbrev S300 : Shape := ⟨1, ![300]⟩
abbrev S300x8 : Shape := ⟨2, ![300, 8]⟩
abbrev S8x600x300 : Shape := ⟨3, ![8, 600, 300]⟩
abbrev S8x600 : Shape := ⟨2, ![8, 600]⟩
abbrev S8x300x600 : Shape := ⟨3, ![8, 300, 600]⟩
abbrev S8x300 : Shape := ⟨2, ![8, 300]⟩
abbrev S1x1x768 : Shape := ⟨3, ![1, 1, 768]⟩
abbrev S32x300x300 : Shape := ⟨3, ![32, 300, 300]⟩
abbrev S4x16x32x300 : Shape := ⟨4, ![4, 16, 32, 300]⟩
abbrev S32x4x300x16 : Shape := ⟨4, ![32, 4, 300, 16]⟩
abbrev S32x4x300x300 : Shape := ⟨4, ![32, 4, 300, 300]⟩
abbrev S_ : Shape := ⟨0, ![]⟩
abbrev S300x300 : Shape := ⟨2, ![300, 300]⟩
abbrev S32x4x300 : Shape := ⟨3, ![32, 4, 300]⟩
abbrev S32x4x300x1 : Shape := ⟨4, ![32, 4, 300, 1]⟩
abbrev S32x300x4x16 : Shape := ⟨4, ![32, 300, 4, 16]⟩
abbrev S32x300x64 : Shape := ⟨3, ![32, 300, 64]⟩
abbrev S1x1x300 : Shape := ⟨3, ![1, 1, 300]⟩
abbrev S32x300x8 : Shape := ⟨3, ![32, 300, 8]⟩
abbrev S32x300x4 : Shape := ⟨3, ![32, 300, 4]⟩
abbrev S32x300 : Shape := ⟨2, ![32, 300]⟩
abbrev S32x300x1 : Shape := ⟨3, ![32, 300, 1]⟩
abbrev S32x300x4x1 : Shape := ⟨4, ![32, 300, 4, 1]⟩
abbrev S1x1x1x8 : Shape := ⟨4, ![1, 1, 1, 8]⟩
abbrev S32x300x4x8 : Shape := ⟨4, ![32, 300, 4, 8]⟩
abbrev S32x300x8x600 : Shape := ⟨4, ![32, 300, 8, 600]⟩
abbrev S1x1x8x600 : Shape := ⟨4, ![1, 1, 8, 600]⟩
abbrev S8x300x32x300 : Shape := ⟨4, ![8, 300, 32, 300]⟩
abbrev S32x300x8x300 : Shape := ⟨4, ![32, 300, 8, 300]⟩
abbrev S1x1x8x300 : Shape := ⟨4, ![1, 1, 8, 300]⟩
abbrev S32x300x1x300 : Shape := ⟨4, ![32, 300, 1, 300]⟩

abbrev nBuf : Space → Nat
  | .hbm => 109
  | .vmem => 0
  | .smem => 0
  | _ => 0

abbrev bufTy : (tb : Table) → Fin (tcTables nBuf tb) → BufTy
  | .hbm, ⟨0, _⟩ => ⟨S32x300x768, .f32⟩
  | .hbm, ⟨1, _⟩ => ⟨S768, .f32⟩
  | .hbm, ⟨2, _⟩ => ⟨S300x768, .f32⟩
  | .hbm, ⟨3, _⟩ => ⟨S4x16x300, .f32⟩
  | .hbm, ⟨4, _⟩ => ⟨S4x16x300, .f32⟩
  | .hbm, ⟨5, _⟩ => ⟨S4x16x300, .f32⟩
  | .hbm, ⟨6, _⟩ => ⟨S300x64, .f32⟩
  | .hbm, ⟨7, _⟩ => ⟨S300, .f32⟩
  | .hbm, ⟨8, _⟩ => ⟨S300x8, .f32⟩
  | .hbm, ⟨9, _⟩ => ⟨S8x600x300, .f32⟩
  | .hbm, ⟨10, _⟩ => ⟨S8x600, .f32⟩
  | .hbm, ⟨11, _⟩ => ⟨S8x300x600, .f32⟩
  | .hbm, ⟨12, _⟩ => ⟨S8x300, .f32⟩
  | .hbm, ⟨13, _⟩ => ⟨S1x1x768, .f32⟩
  | .hbm, ⟨14, _⟩ => ⟨S32x300x768, .f32⟩
  | .hbm, ⟨15, _⟩ => ⟨S32x300x768, .f32⟩
  | .hbm, ⟨16, _⟩ => ⟨S32x300x300, .f32⟩
  | .hbm, ⟨17, _⟩ => ⟨S4x16x32x300, .f32⟩
  | .hbm, ⟨18, _⟩ => ⟨S32x4x300x16, .f32⟩
  | .hbm, ⟨19, _⟩ => ⟨S4x16x32x300, .f32⟩
  | .hbm, ⟨20, _⟩ => ⟨S32x4x300x16, .f32⟩
  | .hbm, ⟨21, _⟩ => ⟨S4x16x32x300, .f32⟩
  | .hbm, ⟨22, _⟩ => ⟨S32x4x300x16, .f32⟩
  | .hbm, ⟨23, _⟩ => ⟨S32x4x300x300, .f32⟩
  | .hbm, ⟨24, _⟩ => ⟨S_, .f32⟩
  | .hbm, ⟨25, _⟩ => ⟨S32x4x300x300, .f32⟩
  | .hbm, ⟨26, _⟩ => ⟨S32x4x300x300, .f32⟩
  | .hbm, ⟨27, _⟩ => ⟨S_, .f32⟩
  | .hbm, ⟨28, _⟩ => ⟨S300x300, .f32⟩
  | .hbm, ⟨29, _⟩ => ⟨S300x300, .i32⟩
  | .hbm, ⟨30, _⟩ => ⟨S_, .i32⟩
  | .hbm, ⟨31, _⟩ => ⟨S300x300, .i32⟩
  | .hbm, ⟨32, _⟩ => ⟨S300x300, .i32⟩
  | .hbm, ⟨33, _⟩ => ⟨S300x300, .i32⟩
  | .hbm, ⟨34, _⟩ => ⟨S300x300, .i1⟩
  | .hbm, ⟨35, _⟩ => ⟨S_, .f32⟩
  | .hbm, ⟨36, _⟩ => ⟨S300x300, .f32⟩
  | .hbm, ⟨37, _⟩ => ⟨S300x300, .f32⟩
  | .hbm, ⟨38, _⟩ => ⟨S_, .f32⟩
  | .hbm, ⟨39, _⟩ => ⟨S300x300, .f32⟩
  | .hbm, ⟨40, _⟩ => ⟨S300x300, .i1⟩
  | .hbm, ⟨41, _⟩ => ⟨S_, .f32⟩
  | .hbm, ⟨42, _⟩ => ⟨S_, .f32⟩
  | .hbm, ⟨43, _⟩ => ⟨S32x4x300x300, .i1⟩
  | .hbm, ⟨44, _⟩ => ⟨S32x4x300x300, .f32⟩
  | .hbm, ⟨45, _⟩ => ⟨S32x4x300x300, .f32⟩
  | .hbm, ⟨46, _⟩ => ⟨S_, .f32⟩
  | .hbm, ⟨47, _⟩ => ⟨S32x4x300, .f32⟩
  | .hbm, ⟨48, _⟩ => ⟨S_, .f32⟩
  | .hbm, ⟨49, _⟩ => ⟨S32x4x300, .f32⟩
  | .hbm, ⟨50, _⟩ => ⟨S32x4x300, .f32⟩
  | .hbm, ⟨51, _⟩ => ⟨S32x4x300x1, .f32⟩
  | .hbm, ⟨52, _⟩ => ⟨S32x4x300x300, .f32⟩
  | .hbm, ⟨53, _⟩ => ⟨S32x4x300x300, .f32⟩
  | .hbm, ⟨54, _⟩ => ⟨S32x4x300x300, .f32⟩
  | .hbm, ⟨55, _⟩ => ⟨S_, .f32⟩
  | .hbm, ⟨56, _⟩ => ⟨S32x4x300, .f32⟩
  | .hbm, ⟨57, _⟩ => ⟨S32x4x300x1, .f32⟩
  | .hbm, ⟨58, _⟩ => ⟨S32x4x300x300, .f32⟩
  | .hbm, ⟨59, _⟩ => ⟨S32x4x300x300, .f32⟩
  | .hbm, ⟨60, _⟩ => ⟨S32x4x300x16, .f32⟩
  | .hbm, ⟨61, _⟩ => ⟨S32x300x4x16, .f32⟩
  | .hbm, ⟨62, _⟩ => ⟨S32x300x64, .f32⟩
  | .hbm, ⟨63, _⟩ => ⟨S32x300x300, .f32⟩
  | .hbm, ⟨64, _⟩ => ⟨S1x1x300, .f32⟩
  | .hbm, ⟨65, _⟩ => ⟨S32x300x300, .f32⟩
  | .hbm, ⟨66, _⟩ => ⟨S32x300x300, .f32⟩
  | .hbm, ⟨67, _⟩ => ⟨S32x300x8, .f32⟩
  | .hbm, ⟨68, _⟩ => ⟨S32x300x4, .f32⟩
  | .hbm, ⟨69, _⟩ => ⟨S32x300x4, .i32⟩
  | .hbm, ⟨70, _⟩ => ⟨S_, .f32⟩
  | .hbm, ⟨71, _⟩ => ⟨S32x300, .f32⟩
  | .hbm, ⟨72, _⟩ => ⟨S_, .f32⟩
  | .hbm, ⟨73, _⟩ => ⟨S32x300, .f32⟩
  | .hbm, ⟨74, _⟩ => ⟨S32x300, .f32⟩
  | .hbm, ⟨75, _⟩ => ⟨S32x300x1, .f32⟩
  | .hbm, ⟨76, _⟩ => ⟨S32x300x4, .f32⟩
  | .hbm, ⟨77, _⟩ => ⟨S32x300x4, .f32⟩
  | .hbm, ⟨78, _⟩ => ⟨S32x300x4, .f32⟩
  | .hbm, ⟨79, _⟩ => ⟨S_, .f32⟩
  | .hbm, ⟨80, _⟩ => ⟨S32x300, .f32⟩
  | .hbm, ⟨81, _⟩ => ⟨S32x300x1, .f32⟩
  | .hbm, ⟨82, _⟩ => ⟨S32x300x4, .f32⟩
  | .hbm, ⟨83, _⟩ => ⟨S32x300x4, .f32⟩
  | .hbm, ⟨84, _⟩ => ⟨S32x300x4x1, .i32⟩
  | .hbm, ⟨85, _⟩ => ⟨S1x1x1x8, .i32⟩
  | .hbm, ⟨86, _⟩ => ⟨S32x300x4x8, .i32⟩
  | .hbm, ⟨87, _⟩ => ⟨S32x300x4x8, .i32⟩
  | .hbm, ⟨88, _⟩ => ⟨S32x300x4x8, .i1⟩
  | .hbm, ⟨89, _⟩ => ⟨S32x300x4x8, .f32⟩
  | .hbm, ⟨90, _⟩ => ⟨S32x300x8, .f32⟩
  | .hbm, ⟨91, _⟩ => ⟨S32x300x8x600, .f32⟩
  | .hbm, ⟨92, _⟩ => ⟨S1x1x8x600, .f32⟩
  | .hbm, ⟨93, _⟩ => ⟨S32x300x8x600, .f32⟩
  | .hbm, ⟨94, _⟩ => ⟨S32x300x8x600, .f32⟩
  | .hbm, ⟨95, _⟩ => ⟨S_, .f32⟩
  | .hbm, ⟨96, _⟩ => ⟨S32x300x8x600, .f32⟩
  | .hbm, ⟨97, _⟩ => ⟨S32x300x8x600, .f32⟩
  | .hbm, ⟨98, _⟩ => ⟨S8x300x32x300, .f32⟩
  | .hbm, ⟨99, _⟩ => ⟨S32x300x8x300, .f32⟩
  | .hbm, ⟨100, _⟩ => ⟨S1x1x8x300, .f32⟩
  | .hbm, ⟨101, _⟩ => ⟨S32x300x8x300, .f32⟩
  | .hbm, ⟨102, _⟩ => ⟨S32x300x8x300, .f32⟩
  | .hbm, ⟨103, _⟩ => ⟨S32x300x300, .f32⟩
  | .hbm, ⟨104, _⟩ => ⟨S32x300x1x300, .f32⟩
  | .hbm, ⟨105, _⟩ => ⟨S32x300x8x300, .f32⟩
  | .hbm, ⟨106, _⟩ => ⟨S32x300x8x300, .f32⟩
  | .hbm, ⟨107, _⟩ => ⟨S_, .f32⟩
  | .hbm, ⟨108, _⟩ => ⟨S32x300x300, .f32⟩
  | _, _ => ⟨S32x300x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_values : Ref sig .tc := ⟨.hbm, 68, rfl⟩
abbrev main_indices : Ref sig .tc := ⟨.hbm, 69, rfl⟩
abbrev main_cst_6 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call3_cst : Ref sig .tc := ⟨.hbm, 95, rfl⟩
abbrev main_call3_v0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_9 : Ref sig .tc := ⟨.hbm, 107, rfl⟩
abbrev main_v64 : Ref sig .tc := ⟨.hbm, 108, rfl⟩

abbrev nD : Nat := 1
abbrev τ : Topo := Topo.v7x

variable {F : FTy → Type} [FloatOps F]
-- ==== Proof.Model.lean ====
/- The kernel's body as a composition of a few blocks, each written once: the projections of a batch
   entry, one attention head, the output projection of a batch entry, one column of the kept mask, the
   gates, one expert. What the body stores is this composition. -/
module

public import proofs.«01_k».proof.Proof.Gen.KernelIdeal.Frame

@[expose] public section

set_option synthInstance.maxSize 4096

noncomputable section

namespace Cert.KernelIdeal.Model

open Cert.KernelIdeal Cert.KernelIdeal.Gen Idealize.ShloMosaic Idealize.ShloMosaic.TcCoe Idealize.SL.Sem

variable {F : FTy → Type} [FloatOps F] [Named F]

/-- The queries, keys and values of one batch entry, side by side. -/
def qkvB (x : Vec F S1x300x768 .f32) (b : Vec F S1x768 .f32) (w : Vec F S300x768 .bf16) (wqkv : Vec F S192x300 .bf16) :
    FVec F S300x192 .bf16 :=
  let d : FVec F S300x768 .f32 := subf (shapeCast S300x768 x shapeCasts_S1x300x768_S300x768)
    (broadcastTo S300x768 (shapeCast S1x768 b shapeCasts_S1x768_S1x768 : FVec F S1x768 .f32) broadcasts_S1x768_S300x768)
  let h : FVec F S300x300 .f32 := matmul dot_S300x768_S300x768_S300x300_1_1_0_0_n_n none (truncf .bf16 d bitsLt_bf16_f32 : FVec F S300x768 .bf16)
    (shapeCast S300x768 w shapeCasts_S300x768_S300x768) (constant S300x300 .f32 0x00000000#32)
  let z : FVec F S300x192 .f32 := matmul dot_S300x300_S192x300_S300x192_1_1_0_0_n_n none (truncf .bf16 h bitsLt_bf16_f32 : FVec F S300x300 .bf16)
    (shapeCast S192x300 wqkv shapeCasts_S192x300_S192x300) (constant S300x192 .f32 0x00000000#32)
  truncf .bf16 z bitsLt_bf16_f32

/-- The exponentials of one head's scaled scores, masked outside `mask`. -/
def weightB (mask : IVec S300x300 1) (q k : FVec F S300x16 .bf16) : FVec F S300x300 .f32 :=
  let s : FVec F S300x300 .f32 := mulf (matmul dot_S300x16_S300x16_S300x300_1_1_0_0_n_n none q k (constant S300x300 .f32 0x00000000#32))
    (broadcast S300x300 (Scalar.ofBits .f32 0x3D6C7B90#32 : F .f32))
  exp (select mask s (broadcast S300x300 (Named.named κ "mask" 0xF149F2CA#32 : F .f32)))

/-- One head's output from its queries, keys and values. -/
def headB (mask : IVec S300x300 1) (q k v : FVec F S300x16 .bf16) : FVec F S300x16 .bf16 :=
  let w : FVec F S300x300 .f32 := weightB mask q k
  let r : FVec F S300 .f32 := multiReduction .add [1] S300 w 0x00000000#32 reduces_S300x300_S300 (.inl rfl) rfl
  let i : FVec F S300x1 .f32 := divf (broadcast S300x1 (Scalar.ofBits .f32 0x3F800000#32 : F .f32)) (shapeCast S300x1 r shapeCasts_S300_S300x1)
  let a : FVec F S300x16 .f32 := matmul dot_S300x300_S300x16_S300x16_1_0_0_1_n_n none (truncf .bf16 w bitsLt_bf16_f32 : FVec F S300x300 .bf16) v
    (constant S300x16 .f32 0x00000000#32)
  truncf .bf16 (mulf a (broadcastTo S300x16 i broadcasts_S300x1_S300x16) : FVec F S300x16 .f32) bitsLt_bf16_f32

/-- The four heads' outputs side by side. -/
def catB (mask : IVec S300x300 1) (z : FVec F S300x192 .bf16) : FVec F S300x64 .bf16 :=
  concatenate S300x64 1
    [⟨S300x16, headB mask (extractStridedSlice S300x16 ![0, 0] z slices_S300x192_o0_0_S300x16)
        (extractStridedSlice S300x16 ![0, 64] z slices_S300x192_o0_64_S300x16) (extractStridedSlice S300x16 ![0, 128] z slices_S300x192_o0_128_S300x16)⟩,
     ⟨S300x16, headB mask (extractStridedSlice S300x16 ![0, 16] z slices_S300x192_o0_16_S300x16)
        (extractStridedSlice S300x16 ![0, 80] z slices_S300x192_o0_80_S300x16) (extractStridedSlice S300x16 ![0, 144] z slices_S300x192_o0_144_S300x16)⟩,
     ⟨S300x16, headB mask (extractStridedSlice S300x16 ![0, 32] z slices_S300x192_o0_32_S300x16)
        (extractStridedSlice S300x16 ![0, 96] z slices_S300x192_o0_96_S300x16) (extractStridedSlice S300x16 ![0, 160] z slices_S300x192_o0_160_S300x16)⟩,
     ⟨S300x16, headB mask (extractStridedSlice S300x16 ![0, 48] z slices_S300x192_o0_48_S300x16)
        (extractStridedSlice S300x16 ![0, 112] z slices_S300x192_o0_112_S300x16) (extractStridedSlice S300x16 ![0, 176] z slices_S300x192_o0_176_S300x16)⟩]
    concatenates_S300x16_S300x16_S300x16_S300x16_S300x64_d1

/-- The output projection of the four heads of one batch entry. -/
def rowB (mask : IVec S300x300 1) (z : FVec F S300x192 .bf16) (wp : Vec F S300x64 .bf16) (bp : Vec F S1x300 .f32) : FVec F S300x300 .f32 :=
  let a : FVec F S300x300 .f32 := matmul dot_S300x64_S300x64_S300x300_1_1_0_0_n_n none (catB mask z) (shapeCast S300x64 wp shapeCasts_S300x64_S300x64)
    (constant S300x300 .f32 0x00000000#32)
  addf a (broadcastTo S300x300 (shapeCast S1x300 bp shapeCasts_S1x300_S1x300 : FVec F S1x300 .f32) broadcasts_S1x300_S300x300)

/-- The rows of four batch entries, one below the other. -/
def rowsB (r0 r1 r2 r3 : FVec F S300x300 .f32) : FVec F S1200x300 .bf16 :=
  truncf .bf16 (concatenate S1200x300 0 [⟨S300x300, r0⟩, ⟨S300x300, r1⟩, ⟨S300x300, r2⟩, ⟨S300x300, r3⟩]
    concatenates_S300x300_S300x300_S300x300_S300x300_S1200x300_d0 : FVec F S1200x300 .f32) bitsLt_bf16_f32

/-- The gating logits of all rows. -/
def logitB (h : FVec F S1200x300 .bf16) (wg : Vec F S300x8 .bf16) : FVec F S1200x8 .f32 :=
  matmul dot_S1200x300_S300x8_S1200x8_1_0_0_1_n_n none h (shapeCast S300x8 wg shapeCasts_S300x8_S300x8) (constant S1200x8 .f32 0x00000000#32)

/-- One column of the kept mask: one where fewer than four entries come before column `e` (whose entries are `c`). -/
def keepB (l : FVec F S1200x8 .f32) (c : FVec F S1200x1 .f32) (e : BitVec 32) : FVec F S1200x1 .f32 :=
  let cb : FVec F S1200x8 .f32 := broadcastTo S1200x8 c broadcasts_S1200x1_S1200x8
  let b : IVec S1200x8 1 := ori (cmpf .ogt l cb)
    (andi (cmpf .oeq l cb) (cmpi .slt (iota .tc S1200x8 32 [1] iota_S1200x8_d1_w32) (broadcast S1200x8 e)))
  let n : FVec F S1200 .f32 := multiReduction .add [1] S1200 (sitofp .f32 (extui 32 b natLt_1_32) : FVec F S1200x8 .f32) 0x00000000#32
    reduces_S1200x8_S1200 (.inl rfl) rfl
  select (cmpf .olt (shapeCast S1200x1 n shapeCasts_S1200_S1200x1 : FVec F S1200x1 .f32) (broadcast S1200x1 (Scalar.ofBits .f32 0x40800000#32 : F .f32)))
    (broadcast S1200x1 (Scalar.ofBits .f32 0x3F800000#32 : F .f32)) (broadcast S1200x1 (Scalar.ofBits .f32 0x00000000#32 : F .f32))

/-- The kept mask of all columns. -/
def keepsB (l : FVec F S1200x8 .f32) : FVec F S1200x8 .f32 :=
  concatenate S1200x8 1
    [⟨S1200x1, keepB l (extractStridedSlice S1200x1 ![0, 0] l slices_S1200x8_o0_0_S1200x1) 0#32⟩,
     ⟨S1200x1, keepB l (extractStridedSlice S1200x1 ![0, 1] l slices_S1200x8_o0_1_S1200x1) 1#32⟩,
     ⟨S1200x1, keepB l (extractStridedSlice S1200x1 ![0, 2] l slices_S1200x8_o0_2_S1200x1) 2#32⟩,
     ⟨S1200x1, keepB l (extractStridedSlice S1200x1 ![0, 3] l slices_S1200x8_o0_3_S1200x1) 3#32⟩,
     ⟨S1200x1, keepB l (extractStridedSlice S1200x1 ![0, 4] l slices_S1200x8_o0_4_S1200x1) 4#32⟩,
     ⟨S1200x1, keepB l (extractStridedSlice S1200x1 ![0, 5] l slices_S1200x8_o0_5_S1200x1) 5#32⟩,
     ⟨S1200x1, keepB l (extractStridedSlice S1200x1 ![0, 6] l slices_S1200x8_o0_6_S1200x1) 6#32⟩,
     ⟨S1200x1, keepB l (extractStridedSlice S1200x1 ![0, 7] l slices_S1200x8_o0_7_S1200x1) 7#32⟩]
    concatenates_S1200x1_S1200x1_S1200x1_S1200x1_S1200x1_S1200x1_S1200x1_S1200x1_S1200x8_d1

/-- The logits outside the kept mask replaced by the mask constant. -/
def maskedB (l k : FVec F S1200x8 .f32) : FVec F S1200x8 .f32 :=
  select (cmpf .ogt k (broadcast S1200x8 (Scalar.ofBits .f32 0x3F000000#32 : F .f32))) l
    (broadcast S1200x8 (Named.named κ "mask" 0xF149F2CA#32 : F .f32))

/-- The shifted exponentials of the kept logits. -/
def keptB (l k : FVec F S1200x8 .f32) : FVec F S1200x8 .f32 :=
  let m : FVec F S1200x8 .f32 := maskedB l k
  let t : FVec F S1200 .f32 := multiReduction .maximumf [1] S1200 m 0xFF800000#32 reduces_S1200x8_S1200 (.inl rfl) rfl
  mulf (exp (subf m (broadcastTo S1200x8 (shapeCast S1200x1 t shapeCasts_S1200_S1200x1 : FVec F S1200x1 .f32) broadcasts_S1200x1_S1200x8))) k

/-- The kept exponentials divided by their sum. -/
def normB (x : FVec F S1200x8 .f32) : FVec F S1200x8 .f32 :=
  let n : FVec F S1200 .f32 := multiReduction .add [1] S1200 x 0x00000000#32 reduces_S1200x8_S1200 (.inl rfl) rfl
  let i : FVec F S1200x1 .f32 := divf (broadcast S1200x1 (Scalar.ofBits .f32 0x3F800000#32 : F .f32)) (shapeCast S1200x1 n shapeCasts_S1200_S1200x1)
  mulf x (broadcastTo S1200x8 i broadcasts_S1200x1_S1200x8)

/-- The gates of all rows. -/
def gateB (l : FVec F S1200x8 .f32) : FVec F S1200x8 .f32 := normB (keptB l (keepsB l))

/-- The hidden layer of one expert on all rows. -/
def hiddenB (h : FVec F S1200x300 .bf16) (w1 : Vec F S1x600x300 .bf16) (b1 : FVec F S1x600 .bf16) : FVec F S1200x600 .bf16 :=
  let a : FVec F S1200x600 .f32 := matmul dot_S1200x300_S600x300_S1200x600_1_1_0_0_n_n none h
    (shapeCast S600x300 w1 shapeCasts_S1x600x300_S600x300) (constant S1200x600 .f32 0x00000000#32)
  maximumf (addf (truncf .bf16 a bitsLt_bf16_f32 : FVec F S1200x600 .bf16) (broadcastTo S1200x600 b1 broadcasts_S1x600_S1200x600))
    (broadcast S1200x600 (Scalar.ofBits .bf16 0x0000#16 : F .bf16))

/-- One expert on all rows. -/
def expertB (h : FVec F S1200x300 .bf16) (w1 : Vec F S1x600x300 .bf16) (b1 : FVec F S1x600 .bf16)
    (w2 : Vec F S1x300x600 .bf16) (b2 : FVec F S1x300 .f32) : FVec F S1200x300 .f32 :=
  let a : FVec F S1200x300 .f32 := matmul dot_S1200x600_S300x600_S1200x300_1_1_0_0_n_n none (hiddenB h w1 b1)
    (shapeCast S300x600 w2 shapeCasts_S1x300x600_S300x600) (constant S1200x300 .f32 0x00000000#32)
  addf a (broadcastTo S1200x300 b2 broadcasts_S1x300_S1200x300)

/-- One expert's output added to the plain sum. -/
def addB (s o : FVec F S1200x300 .f32) : FVec F S1200x300 .f32 := addf s o

/-- One expert's output added to the gated sum, with the gate column `g`. -/
def gatedB (s : FVec F S1200x300 .f32) (g : FVec F S1200x1 .f32) (o : FVec F S1200x300 .f32) : FVec F S1200x300 .f32 :=
  addf s (mulf (broadcastTo S1200x300 g broadcasts_S1200x1_S1200x300) o)

/-- The zero both sums start at. -/
def zeroB : FVec F S1200x300 .f32 := broadcast S1200x300 (Scalar.ofBits .f32 0x00000000#32 : F .f32)

/-- The plain sum of eight expert outputs. -/
def plainB (o : Fin 8 → FVec F S1200x300 .f32) : FVec F S1200x300 .f32 :=
  addB (addB (addB (addB (addB (addB (addB (addB zeroB (o 0)) (o 1)) (o 2)) (o 3)) (o 4)) (o 5)) (o 6)) (o 7)

/-- The gated sum of eight expert outputs. -/
def mixB (g : FVec F S1200x8 .f32) (o : Fin 8 → FVec F S1200x300 .f32) : FVec F S1200x300 .f32 :=
  gatedB (gatedB (gatedB (gatedB (gatedB (gatedB (gatedB (gatedB zeroB
    (extractStridedSlice S1200x1 ![0, 0] g slices_S1200x8_o0_0_S1200x1) (o 0))
    (extractStridedSlice S1200x1 ![0, 1] g slices_S1200x8_o0_1_S1200x1) (o 1))
    (extractStridedSlice S1200x1 ![0, 2] g slices_S1200x8_o0_2_S1200x1) (o 2))
    (extractStridedSlice S1200x1 ![0, 3] g slices_S1200x8_o0_3_S1200x1) (o 3))
    (extractStridedSlice S1200x1 ![0, 4] g slices_S1200x8_o0_4_S1200x1) (o 4))
    (extractStridedSlice S1200x1 ![0, 5] g slices_S1200x8_o0_5_S1200x1) (o 5))
    (extractStridedSlice S1200x1 ![0, 6] g slices_S1200x8_o0_6_S1200x1) (o 6))
    (extractStridedSlice S1200x1 ![0, 7] g slices_S1200x8_o0_7_S1200x1) (o 7)

/-- The eight experts on all rows, from the parameter blocks. -/
def expertsB (h : FVec F S1200x300 .bf16) (w1 : Vec F S8x600x300 .bf16) (b1 : Vec F S8x600 .bf16) (w2 : Vec F S8x300x600 .bf16)
    (b2 : Vec F S8x300 .f32) : Fin 8 → FVec F S1200x300 .f32 :=
  let b1' : FVec F S8x600 .bf16 := shapeCast S8x600 (View.ld b1 r0_10) shapeCasts_S8x600_S8x600
  let b2' : FVec F S8x300 .f32 := View.ld b2 r0_11
  ![expertB h (View.ld w1 r0_12) (extractStridedSlice S1x600 ![0, 0] b1' slices_S8x600_o0_0_S1x600) (View.ld w2 r0_13) (extractStridedSlice S1x300 ![0, 0] b2' slices_S8x300_o0_0_S1x300),
    expertB h (View.ld w1 r0_14) (extractStridedSlice S1x600 ![1, 0] b1' slices_S8x600_o1_0_S1x600) (View.ld w2 r0_15) (extractStridedSlice S1x300 ![1, 0] b2' slices_S8x300_o1_0_S1x300),
    expertB h (View.ld w1 r0_16) (extractStridedSlice S1x600 ![2, 0] b1' slices_S8x600_o2_0_S1x600) (View.ld w2 r0_17) (extractStridedSlice S1x300 ![2, 0] b2' slices_S8x300_o2_0_S1x300),
    expertB h (View.ld w1 r0_18) (extractStridedSlice S1x600 ![3, 0] b1' slices_S8x600_o3_0_S1x600) (View.ld w2 r0_19) (extractStridedSlice S1x300 ![3, 0] b2' slices_S8x300_o3_0_S1x300),
    expertB h (View.ld w1 r0_20) (extractStridedSlice S1x600 ![4, 0] b1' slices_S8x600_o4_0_S1x600) (View.ld w2 r0_21) (extractStridedSlice S1x300 ![4, 0] b2' slices_S8x300_o4_0_S1x300),
    expertB h (View.ld w1 r0_22) (extractStridedSlice S1x600 ![5, 0] b1' slices_S8x600_o5_0_S1x600) (View.ld w2 r0_23) (extractStridedSlice S1x300 ![5, 0] b2' slices_S8x300_o5_0_S1x300),
    expertB h (View.ld w1 r0_24) (extractStridedSlice S1x600 ![6, 0] b1' slices_S8x600_o6_0_S1x600) (View.ld w2 r0_25) (extractStridedSlice S1x300 ![6, 0] b2' slices_S8x300_o6_0_S1x300),
    expertB h (View.ld w1 r0_26) (extractStridedSlice S1x600 ![7, 0] b1' slices_S8x600_o7_0_S1x600) (View.ld w2 r0_27) (extractStridedSlice S1x300 ![7, 0] b2' slices_S8x300_o7_0_S1x300)]

/-- The rows of the four batch entries of a block. -/
def hB (x0 : Vec F S4x300x768 .f32) (x1 : Vec F S1x768 .f32) (x2 : Vec F S300x768 .bf16) (x3 : Vec F S192x300 .bf16) (x4 : Vec F S300x64 .bf16)
    (x5 : Vec F S1x300 .f32) : FVec F S1200x300 .bf16 :=
  rowsB (rowB k0_pay1 (qkvB (View.ld x0 r0_0) (View.ld x1 r0_1) (View.ld x2 r0_2) (View.ld x3 r0_3)) (View.ld x4 r0_4) (View.ld x5 r0_5))
    (rowB k0_pay1 (qkvB (View.ld x0 r0_6) (View.ld x1 r0_1) (View.ld x2 r0_2) (View.ld x3 r0_3)) (View.ld x4 r0_4) (View.ld x5 r0_5))
    (rowB k0_pay1 (qkvB (View.ld x0 r0_7) (View.ld x1 r0_1) (View.ld x2 r0_2) (View.ld x3 r0_3)) (View.ld x4 r0_4) (View.ld x5 r0_5))
    (rowB k0_pay1 (qkvB (View.ld x0 r0_8) (View.ld x1 r0_1) (View.ld x2 r0_2) (View.ld x3 r0_3)) (View.ld x4 r0_4) (View.ld x5 r0_5))

/-- What the body stores: the gated sum times the plain sum, from the rows `h`, their gates `g` and the experts `o`. -/
def storeB (g : FVec F S1200x8 .f32) (o : Fin 8 → FVec F S1200x300 .f32) : FVec F S4x300x300 .f32 :=
  shapeCast S4x300x300 (mulf (mixB g o) (plainB o) : FVec F S1200x300 .f32) shapeCasts_S1200x300_S4x300x300

section body

variable (x0 : Vec F S4x300x768 .f32) (x1 : Vec F S1x768 .f32) (x2 : Vec F S300x768 .bf16) (x3 : Vec F S192x300 .bf16)
  (x4 : Vec F S300x64 .bf16) (x5 : Vec F S1x300 .f32) (x6 : Vec F S300x8 .bf16) (x7 : Vec F S8x600x300 .bf16)
  (x8 : Vec F S8x600 .bf16) (x9 : Vec F S8x300x600 .bf16) (x10 : Vec F S8x300 .f32)

/-- The rows the body forms are those of the composition. -/
theorem rows_eq : k0_pay82 x0 x1 x2 x3 x4 x5 x6 x7 x8 x9 x10 = hB x0 x1 x2 x3 x4 x5 := rfl

/-- The logits the body forms are those of the composition. -/
theorem logits_eq : k0_pay83 x0 x1 x2 x3 x4 x5 x6 x7 x8 x9 x10 = logitB (hB x0 x1 x2 x3 x4 x5) (View.ld x6 r0_9) := rfl

/-- The gates the body forms are those of the composition. -/
theorem gates_eq : k0_pay84 x0 x1 x2 x3 x4 x5 x6 x7 x8 x9 x10 = gateB (logitB (hB x0 x1 x2 x3 x4 x5) (View.ld x6 r0_9)) := rfl

/-- What the body leaves in the output block is the composition. -/
theorem out_eq : out0_11 x0 x1 x2 x3 x4 x5 x6 x7 x8 x9 x10 = View.canon [⟨r0_28,
    storeB (gateB (logitB (hB x0 x1 x2 x3 x4 x5) (View.ld x6 r0_9))) (expertsB (hB x0 x1 x2 x3 x4 x5) x7 x8 x9 x10)⟩] := by
  unfold out0_11
  rw [gates_eq, rows_eq]
  rfl

end body

end Cert.KernelIdeal.Model

end
-- ==== Proof.Spec.lean ====
/- The mathematics over the reals that both programs compute, for one batch entry: the hidden
   projection, causal multi-head attention, the output projection, the gating over the four largest
   logits, the experts, and the product of the gated sum with the plain sum. -/
module

public import Mathlib.Analysis.SpecialFunctions.Exp

@[expose] public section

noncomputable section

namespace Cert.Spec

/-- The layer's parameters as real tables. -/
structure Params where
  bw : Fin 768 → ℝ
  W : Fin 300 → Fin 768 → ℝ
  Wk : Fin 4 → Fin 16 → Fin 300 → ℝ
  Wq : Fin 4 → Fin 16 → Fin 300 → ℝ
  Wv : Fin 4 → Fin 16 → Fin 300 → ℝ
  Wp : Fin 300 → Fin 64 → ℝ
  bp : Fin 300 → ℝ
  wg : Fin 300 → Fin 8 → ℝ
  W1 : Fin 8 → Fin 600 → Fin 300 → ℝ
  b1 : Fin 8 → Fin 600 → ℝ
  W2 : Fin 8 → Fin 300 → Fin 600 → ℝ
  b2 : Fin 8 → Fin 300 → ℝ

/-- The scale of the attention scores: the single-precision number nearest `300 ^ (-1/2)`. -/
def scale : ℝ := 15498128 / 268435456

/-- The scores' exponentials with the keys after the query dropped: query `t`, key `u`. -/
def weight (s : Fin 300 → Fin 300 → ℝ) (t u : Fin 300) : ℝ :=
  if u ≤ t then Real.exp (s t u) else 0

/-- Attention of one head from its scores and its values. -/
def attend (s : Fin 300 → Fin 300 → ℝ) (v : Fin 300 → Fin 16 → ℝ) (t : Fin 300) (j : Fin 16) : ℝ :=
  (∑ u, weight s t u * v u j) / ∑ u, weight s t u

/-- How many entries of `l` come before entry `e` when sorted downwards with ties to the lower place. -/
def rank (l : Fin 8 → ℝ) (e : Fin 8) : ℕ :=
  (Finset.univ.filter fun j => l e < l j ∨ (l j = l e ∧ j < e)).card

/-- The exponential of an entry among the four largest, and zero for the others. -/
def kept (l : Fin 8 → ℝ) (e : Fin 8) : ℝ := if rank l e < 4 then Real.exp (l e) else 0

/-- The gate: the softmax over the four largest entries. -/
def gate (l : Fin 8 → ℝ) (e : Fin 8) : ℝ := kept l e / ∑ j, kept l j

variable (p : Params) (x : Fin 300 → Fin 768 → ℝ)

/-- The hidden rows. -/
def hid (t : Fin 300) (o : Fin 300) : ℝ := ∑ d, (x t d - p.bw d) * p.W o d

/-- One head's projection of the hidden rows. -/
def proj (w : Fin 16 → Fin 300 → ℝ) (t : Fin 300) (j : Fin 16) : ℝ := ∑ o, hid p x t o * w j o

/-- The weights of the queries (`0`), the keys (`1`) and the values (`2`). -/
def part (a : Fin 3) : Fin 4 → Fin 16 → Fin 300 → ℝ := ![p.Wq, p.Wk, p.Wv] a

/-- The weights of the queries, keys and values of all heads, one below the other. -/
def wqkv (j : Fin 192) (o : Fin 300) : ℝ :=
  part p ⟨j.1 / 64, by omega⟩ ⟨j.1 / 16 % 4, by omega⟩ ⟨j.1 % 16, by omega⟩ o

/-- One head's scaled scores. -/
def score (h : Fin 4) (t u : Fin 300) : ℝ :=
  (∑ j, proj p x (p.Wq h) t j * proj p x (p.Wk h) u j) * scale

/-- One head's output. -/
def att (h : Fin 4) (t : Fin 300) (j : Fin 16) : ℝ :=
  attend (score p x h) (proj p x (p.Wv h)) t j

/-- Column `f` of the four heads' outputs side by side. -/
def cat (t : Fin 300) (f : Fin 64) : ℝ :=
  att p x ⟨f / 16, by omega⟩ t ⟨f % 16, by omega⟩

/-- The rows after the output projection. -/
def row (t : Fin 300) (o : Fin 300) : ℝ := (∑ f, cat p x t f * p.Wp o f) + p.bp o

/-- The gating logits of a row. -/
def logit (r : Fin 300 → ℝ) (e : Fin 8) : ℝ := ∑ d, r d * p.wg d e

/-- One expert on a row. -/
def expert (r : Fin 300 → ℝ) (e : Fin 8) (o : Fin 300) : ℝ :=
  (∑ f, max ((∑ d, r d * p.W1 e f d) + p.b1 e f) 0 * p.W2 e o f) + p.b2 e o

/-- The mixture of a row: the gated sum of the experts times their plain sum. -/
def mix (r : Fin 300 → ℝ) (o : Fin 300) : ℝ :=
  (∑ e, gate (logit p r) e * expert p r e o) * ∑ e, expert p r e o

/-- The layer's output for one batch entry. -/
def out (t : Fin 300) (o : Fin 300) : ℝ := mix p (row p x t) o

end Cert.Spec

end
-- ==== Proof.Reals.lean ====
/- Extended-real arithmetic on finite values: sums, quotients, exponentials and maxima of real numbers
   stay real; the literals the programs use; and the facts about the gate over the four largest. -/
module

public import Idealize.ShloMosaic.Lib.Pointwise
public import Idealize.ShloMosaic.Lib.IdealHost
public import Idealize.ShloMosaic.Lib.WordCmp
public import proofs.«01_k».proof.Proof.Spec

@[expose] public section

noncomputable section

namespace Cert.Reals

open Idealize.ShloMosaic Cert.Spec

/-- A finite sum of real values, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of entries that are real is the sum of those real entries. -/
theorem sum_eq {ι : Type*} [Fintype ι] {f : ι → EReal} {g : ι → ℝ} (h : ∀ i, f i = ((g i : ℝ) : EReal)) :
    ∑ i, f i = ((∑ i, g i : ℝ) : EReal) := by
  rw [← coe_sum]; exact Finset.sum_congr rfl fun i _ => h i

/-- A sum of products of real entries is real. -/
theorem dot_eq {ι : Type*} [Fintype ι] {f g : ι → EReal} {a b : ι → ℝ} (hf : ∀ i, f i = ((a i : ℝ) : EReal))
    (hg : ∀ i, g i = ((b i : ℝ) : EReal)) : ∑ i, f i * g i = ((∑ i, a i * b i : ℝ) : EReal) :=
  sum_eq fun i => by rw [hf, hg, EReal.coe_mul]

/-- The quotient of two reals with a nonzero divisor is the real quotient. -/
theorem div_eq (a b : ℝ) (hb : b ≠ 0) : Ideal.div (a : EReal) (b : EReal) = ((a / b : ℝ) : EReal) := by
  have hb' : ((b : ℝ) : EReal) ≠ 0 := by exact_mod_cast hb
  rw [Ideal.div, if_neg hb', div_eq_mul_inv, EReal.coe_mul, EReal.coe_inv]

/-- The scale of the scores as a real number. -/
theorem ofBits_scale : Ideal.ofBits .f32 0x3D6C7B90#32 = ((scale : ℝ) : EReal) := by
  simp [Ideal.ofBits, Ideal.ieee, scale, -EReal.coe_mul]; norm_num

/-- Four. -/
theorem ofBits_four : Ideal.ofBits .f32 0x40800000#32 = ((4 : ℝ) : EReal) := by
  simp [Ideal.ofBits, Ideal.ieee, -EReal.coe_mul]; norm_num

/-- One half. -/
theorem ofBits_half : Ideal.ofBits .f32 0x3F000000#32 = ((1 / 2 : ℝ) : EReal) := by
  simp [Ideal.ofBits, Ideal.ieee, -EReal.coe_mul]; norm_num

/-- Minus infinity. -/
theorem ofBits_bot : Ideal.ofBits .f32 0xFF800000#32 = ⊥ := by
  simp [Ideal.ofBits, Ideal.ieee]

/-- The largest of finitely many values, none of them plus infinity and one of them real, is real. -/
theorem fold_max_real {ι : Type*} [Fintype ι] (f : ι → EReal) (hf : ∀ i, f i ≠ ⊤) (i : ι) (r : ℝ) (hi : f i = (r : EReal)) :
    ∃ M : ℝ, Finset.fold max ⊥ f Finset.univ = (M : EReal) := by
  have h1 : Finset.fold max ⊥ f Finset.univ ≠ ⊤ := by
    intro h
    have := (Finset.fold_max_lt (s := Finset.univ) (f := f) (b := (⊥ : EReal)) (⊤ : EReal)).2
      ⟨bot_lt_top, fun j _ => lt_top_iff_ne_top.2 (hf j)⟩
    exact this.ne h
  have h2 : Finset.fold max ⊥ f Finset.univ ≠ ⊥ := by
    intro h
    have := (Finset.le_fold_max (s := Finset.univ) (f := f) (b := (⊥ : EReal)) (r : EReal)).2 (Or.inr ⟨i, Finset.mem_univ _, hi.ge⟩)
    rw [h, le_bot_iff] at this
    exact EReal.coe_ne_bot r this
  exact ⟨_, (EReal.coe_toReal h1 h2).symm⟩

/-- The weights of a query have a positive sum. -/
theorem weight_pos (s : Fin 300 → Fin 300 → ℝ) (t : Fin 300) : 0 < ∑ u, weight s t u := by
  refine Finset.sum_pos' (fun u _ => ?_) ⟨t, Finset.mem_univ _, ?_⟩
  · unfold weight; split_ifs
    · exact (Real.exp_pos _).le
    · exact le_rfl
  · rw [weight, if_pos le_rfl]; exact Real.exp_pos _

/-- Some entry of eight comes first. -/
theorem exists_rank_zero (l : Fin 8 → ℝ) : ∃ e, rank l e = 0 := by
  have hne : (Finset.univ.filter fun e : Fin 8 => ∀ j, l j ≤ l e).Nonempty := by
    obtain ⟨e, -, he⟩ := Finset.exists_max_image Finset.univ l Finset.univ_nonempty
    exact ⟨e, by simpa using fun j => he j (Finset.mem_univ j)⟩
  refine ⟨(Finset.univ.filter fun e : Fin 8 => ∀ j, l j ≤ l e).min' hne,
    Finset.card_eq_zero.2 (Finset.filter_eq_empty_iff.2 fun j _ hj => ?_)⟩
  · have hm := (Finset.mem_filter.1 (Finset.min'_mem _ hne)).2
    rcases hj with hj | ⟨hj, hlt⟩
    · exact absurd (hm j) (not_le.2 hj)
    · refine absurd (Finset.min'_le _ j (Finset.mem_filter.2 ⟨Finset.mem_univ _, fun i => ?_⟩)) (not_le.2 hlt)
      rw [hj]; exact hm i

/-- Kept entries are not negative. -/
theorem kept_nonneg (l : Fin 8 → ℝ) (e : Fin 8) : 0 ≤ kept l e := by
  unfold kept; split_ifs
  · exact (Real.exp_pos _).le
  · exact le_rfl

/-- The kept entries have a positive sum. -/
theorem kept_pos (l : Fin 8 → ℝ) : 0 < ∑ e, kept l e := by
  obtain ⟨e, he⟩ := exists_rank_zero l
  refine Finset.sum_pos' (fun e _ => kept_nonneg l e) ⟨e, Finset.mem_univ _, ?_⟩
  rw [kept, if_pos (by omega)]; exact Real.exp_pos _

/-- The word comparison of two places decides their order. -/
theorem select_le {α : Type} (t u : Fin 300) (a b : α) :
    Scalar.select (IntOp.cmpi .sle (BitVec.ofNat 32 u.1) (BitVec.ofNat 32 t.1)) a b = if u ≤ t then a else b := by
  rw [WordCmp.cmpi_sle_ofNat (by have := u.2; norm_num; omega) (by have := t.2; norm_num; omega)]
  by_cases h : u ≤ t <;> simp [Scalar.select, h, Fin.le_def] <;> (have := Fin.le_def.not.1 h; omega)

/-- A truth value read as a number. -/
theorem sitofp_bit (P Q R : Prop) [Decidable P] [Decidable Q] [Decidable R] :
    (FloatOps.sitofp .f32 (BitVec.setWidth 32 (IntOp.ori (BitVec.ofBool (decide P))
      (IntOp.andi (BitVec.ofBool (decide Q)) (BitVec.ofBool (decide R))))) : Ideal .f32) = (((if P ∨ (Q ∧ R) then 1 else 0 : ℝ)) : EReal) := by
  show (((BitVec.toInt _ : ℤ) : ℝ) : EReal) = _
  by_cases hP : P <;> by_cases hQ : Q <;> by_cases hR : R <;> simp [hP, hQ, hR, IntOp.ori, IntOp.andi]

/-- The number of entries before `e`, counted as a sum of ones. -/
theorem rank_eq_sum (l : Fin 8 → ℝ) (e : Fin 8) :
    ∑ j, (if l e < l j ∨ (l j = l e ∧ j < e) then 1 else 0 : ℝ) = (rank l e : ℝ) := by
  rw [rank, Finset.card_filter]; push_cast; rfl

end Cert.Reals

end
-- ==== Proof.Blocks.lean ====
/- What each block of the kernel's composition holds on finite inputs: the real number the mathematics
   names, at every index. -/
module

public import proofs.«01_k».proof.Proof.Model
public import proofs.«01_k».proof.Proof.Reals

@[expose] public section

set_option synthInstance.maxSize 4096
set_option maxRecDepth 16384

noncomputable section

namespace Cert.KernelIdeal.Blocks

open Cert.KernelIdeal Cert.KernelIdeal.Gen Cert.KernelIdeal.Model Cert.Spec Cert.Reals
open Idealize.ShloMosaic Idealize.ShloMosaic.TcCoe Idealize.SL.Sem

/-- The named mask constant is minus infinity. -/
theorem mask_bot : (Named.named κ "mask" 0xF149F2CA#32 : Ideal .f32) = ⊥ :=
  IdealRules.named_const.ideal_named_scalar _ _ _ _ rfl

variable (p : Params)

/-- The projections of one batch entry. -/
theorem qkv_val (X : Fin 300 → Fin 768 → ℝ) (x : Vec Ideal S1x300x768 .f32) (b : Vec Ideal S1x768 .f32) (w : Vec Ideal S300x768 .bf16)
    (wq : Vec Ideal S192x300 .bf16) (hx : ∀ t d, x (ix3 0 t d) = ((X t d : ℝ) : EReal)) (hb : ∀ d, b (ix2 0 d) = ((p.bw d : ℝ) : EReal))
    (hw : ∀ o d, w (ix2 o d) = ((p.W o d : ℝ) : EReal)) (hq : ∀ j o, wq (ix2 j o) = ((wqkv p j o : ℝ) : EReal)) (t : Fin 300) (j : Fin 192) :
    qkvB x b w wq (ix2 t j) = ((∑ o, hid p X t o * wqkv p j o : ℝ) : EReal) := by
  pointwise [qkvB]
  exact dot_eq (fun o => dot_eq (fun d => by rw [hx, hb, EReal.coe_sub]) fun d => hw o d) fun o => hq j o

/-- The masked exponentials of one head. -/
theorem weight_val (q k : FVec Ideal S300x16 .bf16) (Q K : Fin 300 → Fin 16 → ℝ) (hq : ∀ t j, q (ix2 t j) = ((Q t j : ℝ) : EReal))
    (hk : ∀ t j, k (ix2 t j) = ((K t j : ℝ) : EReal)) (t u : Fin 300) :
    weightB k0_pay1 q k (ix2 t u) = ((weight (fun t u => (∑ j, Q t j * K u j) * scale) t u : ℝ) : EReal) := by
  pointwise [weightB, k0_pay1]
  rw [select_le, mask_bot, dot_eq (fun j => hq t j) (fun j => hk u j), ofBits_scale, ← EReal.coe_mul, weight]
  split_ifs
  · rfl
  · rfl

/-- The output of one head. -/
theorem head_val (q k v : FVec Ideal S300x16 .bf16) (Q K V : Fin 300 → Fin 16 → ℝ) (hq : ∀ t j, q (ix2 t j) = ((Q t j : ℝ) : EReal))
    (hk : ∀ t j, k (ix2 t j) = ((K t j : ℝ) : EReal)) (hv : ∀ t j, v (ix2 t j) = ((V t j : ℝ) : EReal)) (t : Fin 300) (j : Fin 16) :
    headB k0_pay1 q k v (ix2 t j) = ((attend (fun t u => (∑ j, Q t j * K u j) * scale) V t j : ℝ) : EReal) := by
  pointwise [headB]
  rw [dot_eq (fun u => weight_val q k Q K hq hk t u) (fun u => hv u j), sum_eq (fun u => weight_val q k Q K hq hk t u), ← EReal.coe_one,
    div_eq _ _ (weight_pos _ t).ne', ← EReal.coe_mul, attend, mul_one_div]

/-- A run of sixteen columns of the projections: one head's queries (`a = 0`), keys (`a = 1`) or values (`a = 2`). -/
theorem slice_val (X : Fin 300 → Fin 768 → ℝ) (z : FVec Ideal S300x192 .bf16)
    (hz : ∀ t j, z (ix2 t j) = ((∑ o, hid p X t o * wqkv p j o : ℝ) : EReal)) (o : ℕ) (h : S300x192.Slices ![0, o] S300x16)
    (a : Fin 3) (b : Fin 4) (ho : o = 64 * a.1 + 16 * b.1) (t : Fin 300) (j : Fin 16) :
    extractStridedSlice S300x16 ![0, o] z h (ix2 t j) = ((proj p X (part p a b) t j : ℝ) : EReal) := by
  have hj := j.2
  have hb := b.2
  have ha := a.2
  have hc : extractStridedSlice S300x16 ![0, o] z h (ix2 t j) = z (ix2 t ⟨o + j.1, by omega⟩) := by
    pointwise
  rw [hc, hz, proj]
  congr 1
  refine Finset.sum_congr rfl fun d _ => ?_
  rw [wqkv]
  congr 4 <;> simp only <;> omega

/-- One head of a batch entry, from the projections' columns at `oq`, `ok` and `ov`; `f` is its column among the heads'. -/
theorem head_at (X : Fin 300 → Fin 768 → ℝ) (z : FVec Ideal S300x192 .bf16)
    (hz : ∀ t j, z (ix2 t j) = ((∑ o, hid p X t o * wqkv p j o : ℝ) : EReal)) (oq ok ov : ℕ) (hq : S300x192.Slices ![0, oq] S300x16)
    (hk : S300x192.Slices ![0, ok] S300x16) (hv : S300x192.Slices ![0, ov] S300x16) (t : Fin 300) (j : Fin 16) (f : Fin 64)
    (hj : j.1 = f.1 % 16) (eq : oq = 16 * (f.1 / 16)) (ek : ok = 64 + oq) (ev : ov = 128 + oq) :
    headB k0_pay1 (extractStridedSlice S300x16 ![0, oq] z hq) (extractStridedSlice S300x16 ![0, ok] z hk)
      (extractStridedSlice S300x16 ![0, ov] z hv) (ix2 t j) = ((cat p X t f : ℝ) : EReal) := by
  have hf := f.2
  have hfd : f.1 / 16 < 4 := by omega
  have hs := slice_val p X z hz
  rw [head_val _ _ _ _ _ _ (hs oq hq 0 ⟨f.1 / 16, hfd⟩ (by simp only [Fin.val_zero]; omega)) (hs ok hk 1 ⟨f.1 / 16, hfd⟩ (by simp only [Fin.val_one]; omega))
    (hs ov hv 2 ⟨f.1 / 16, hfd⟩ (by simp only [Fin.val_two]; omega)), cat, att]
  congr 2
  exact Fin.ext hj

/-- The four heads of a batch entry side by side. -/
theorem cat_val (X : Fin 300 → Fin 768 → ℝ) (z : FVec Ideal S300x192 .bf16)
    (hz : ∀ t j, z (ix2 t j) = ((∑ o, hid p X t o * wqkv p j o : ℝ) : EReal)) (t : Fin 300) (f : Fin 64) :
    catB k0_pay1 z (ix2 t f) = ((cat p X t f : ℝ) : EReal) := by
  pointwise [catB]
  have hf := f.2
  split_ifs <;> refine head_at p X z hz _ _ _ _ _ _ t _ f ?_ ?_ rfl rfl <;> (try simp only) <;> omega

/-- The output projection of a batch entry. -/
theorem row_val (X : Fin 300 → Fin 768 → ℝ) (z : FVec Ideal S300x192 .bf16) (wp : Vec Ideal S300x64 .bf16) (bp : Vec Ideal S1x300 .f32)
    (hz : ∀ t j, z (ix2 t j) = ((∑ o, hid p X t o * wqkv p j o : ℝ) : EReal)) (hp : ∀ o f, wp (ix2 o f) = ((p.Wp o f : ℝ) : EReal))
    (hb : ∀ o, bp (ix2 0 o) = ((p.bp o : ℝ) : EReal)) (t o : Fin 300) :
    rowB k0_pay1 z wp bp (ix2 t o) = ((row p X t o : ℝ) : EReal) := by
  pointwise [rowB]
  rw [dot_eq (fun f => cat_val p X z hz t f) (fun f => hp o f), hb, ← EReal.coe_add, row]

/-- Four tables of rows one below the other. -/
theorem rows_val (r0 r1 r2 r3 : FVec Ideal S300x300 .f32) (R : Fin 4 → Fin 300 → Fin 300 → ℝ)
    (h0 : ∀ t o, r0 (ix2 t o) = ((R 0 t o : ℝ) : EReal)) (h1 : ∀ t o, r1 (ix2 t o) = ((R 1 t o : ℝ) : EReal))
    (h2 : ∀ t o, r2 (ix2 t o) = ((R 2 t o : ℝ) : EReal)) (h3 : ∀ t o, r3 (ix2 t o) = ((R 3 t o : ℝ) : EReal)) (i : Fin 1200) (b : Fin 4) (t o : Fin 300)
    (hi : i.1 = b.1 * 300 + t.1) : rowsB r0 r1 r2 r3 (ix2 i o) = ((R b t o : ℝ) : EReal) := by
  have hb := b.2
  have ht := t.2
  pointwise [rowsB]
  split_ifs <;> first
    | rw [h0, show b = 0 by apply Fin.ext; simp only [Fin.val_zero]; omega]; congr 2; apply Fin.ext; simp only; omega
    | rw [h1, show b = 1 by apply Fin.ext; simp only [Fin.val_one]; omega]; congr 2; apply Fin.ext; simp only; omega
    | rw [h2, show b = 2 by apply Fin.ext; simp only [Fin.val_two]; omega]; congr 2; apply Fin.ext; simp only; omega
    | rw [h3, show b = 3 by apply Fin.ext; show b.1 = 3; omega]; congr 2; apply Fin.ext; simp only; omega

/-- The gating logits. -/
theorem logit_val (h : FVec Ideal S1200x300 .bf16) (wg : Vec Ideal S300x8 .bf16) (H : Fin 1200 → Fin 300 → ℝ)
    (hh : ∀ i o, h (ix2 i o) = ((H i o : ℝ) : EReal)) (hg : ∀ d e, wg (ix2 d e) = ((p.wg d e : ℝ) : EReal)) (i : Fin 1200) (e : Fin 8) :
    logitB h wg (ix2 i e) = ((logit p (H i) e : ℝ) : EReal) := by
  pointwise [logitB]
  exact dot_eq (fun d => hh i d) fun d => hg d e

/-- One column of the kept mask. -/
theorem keep_val (l : FVec Ideal S1200x8 .f32) (L : Fin 1200 → Fin 8 → ℝ) (hl : ∀ i e, l (ix2 i e) = ((L i e : ℝ) : EReal))
    (o : ℕ) (ho : S1200x8.Slices ![0, o] S1200x1) (i : Fin 1200) (u : Fin 1) (e : Fin 8) (he : e.1 = o) :
    keepB l (extractStridedSlice S1200x1 ![0, o] l ho) (BitVec.ofNat 32 o) (ix2 i u) = (((if rank (L i) e < 4 then 1 else 0 : ℝ)) : EReal) := by
  have hc : extractStridedSlice S1200x1 ![0, o] l ho (ix2 i 0) = ((L i e : ℝ) : EReal) := by
    rw [← hl]; pointwise; congr 2; exact Fin.ext he.symm
  unfold keepB
  generalize extractStridedSlice S1200x1 ![0, o] l ho = c at hc
  pointwise
  rw [hc]
  simp only [hl]
  rw [sum_eq (g := fun j => if L i e < L i j ∨ (L i j = L i e ∧ j < e) then 1 else 0) fun j => ?_, rank_eq_sum, ofBits_four]
  · have h4 : (((rank (L i) e : ℕ) : ℝ) : EReal) < ((4 : ℝ) : EReal) ↔ rank (L i) e < 4 := by
      rw [EReal.coe_lt_coe_iff]; exact_mod_cast Iff.rfl
    simp only [h4]
    split_ifs <;> rfl
  · have := j.2
    have := e.2
    rw [WordCmp.cmpi_slt_ofNat (by norm_num; omega) (by norm_num; omega), sitofp_bit]
    simp only [EReal.coe_lt_coe_iff, EReal.coe_eq_coe_iff, Fin.lt_def, he]

/-- The kept mask. -/
theorem keeps_val (l : FVec Ideal S1200x8 .f32) (L : Fin 1200 → Fin 8 → ℝ) (hl : ∀ i e, l (ix2 i e) = ((L i e : ℝ) : EReal))
    (i : Fin 1200) (e : Fin 8) : keepsB l (ix2 i e) = (((if rank (L i) e < 4 then 1 else 0 : ℝ)) : EReal) := by
  pointwise [keepsB]
  have he := e.2
  split_ifs <;> refine keep_val l L hl _ _ i _ e ?_ <;> omega

/-- The shifted kept exponentials of a row are the kept ones times one positive number. -/
theorem kept_val (l k : FVec Ideal S1200x8 .f32) (L : Fin 1200 → Fin 8 → ℝ) (hl : ∀ i e, l (ix2 i e) = ((L i e : ℝ) : EReal))
    (hk : ∀ i e, k (ix2 i e) = (((if rank (L i) e < 4 then 1 else 0 : ℝ)) : EReal)) (i : Fin 1200) :
    ∃ c : ℝ, 0 < c ∧ ∀ e, keptB l k (ix2 i e) = ((kept (L i) e * c : ℝ) : EReal) := by
  have hm : ∀ e, (if Ideal.ofBits .f32 0x3F000000#32 < k (ix2 i e) then l (ix2 i e) else Named.named κ "mask" 0xF149F2CA#32)
      = if rank (L i) e < 4 then ((L i e : ℝ) : EReal) else ⊥ := fun e => by
    rw [hk, hl, ofBits_half, mask_bot]
    by_cases h : rank (L i) e < 4
    · rw [if_pos h, if_pos h, if_pos]; rw [EReal.coe_lt_coe_iff]; norm_num
    · rw [if_neg h, if_neg h, if_neg]; rw [EReal.coe_lt_coe_iff]; norm_num
  obtain ⟨e0, h0⟩ := exists_rank_zero (L i)
  obtain ⟨M, hM⟩ := fold_max_real (fun e => if rank (L i) e < 4 then ((L i e : ℝ) : EReal) else ⊥)
    (fun e => by split_ifs; exacts [EReal.coe_ne_top _, bot_ne_top]) e0 (L i e0) (if_pos (by omega))
  refine ⟨Real.exp (-M), Real.exp_pos _, fun e => ?_⟩
  pointwise [keptB, maskedB]
  simp only [hm]
  rw [ofBits_bot, hM, hk, kept]
  split_ifs
  · rw [← EReal.coe_sub, Ideal.exp_coe, ← EReal.coe_mul, mul_one, sub_eq_add_neg, Real.exp_add]
  · simp

/-- The gates of a row. -/
theorem gate_val (l : FVec Ideal S1200x8 .f32) (L : Fin 1200 → Fin 8 → ℝ) (hl : ∀ i e, l (ix2 i e) = ((L i e : ℝ) : EReal))
    (i : Fin 1200) (e : Fin 8) : gateB l (ix2 i e) = ((gate (L i) e : ℝ) : EReal) := by
  obtain ⟨c, hc, h⟩ := kept_val l (keepsB l) L hl (keeps_val l L hl) i
  pointwise [gateB, normB]
  rw [sum_eq h, h, ← Finset.sum_mul, ← EReal.coe_one, div_eq _ _ (mul_pos (kept_pos _) hc).ne', ← EReal.coe_mul, gate, mul_one_div,
    mul_div_mul_right _ _ hc.ne']

/-- One expert on all rows. -/
theorem expert_val (h : FVec Ideal S1200x300 .bf16) (w1 : Vec Ideal S1x600x300 .bf16) (b1 : FVec Ideal S1x600 .bf16)
    (w2 : Vec Ideal S1x300x600 .bf16) (b2 : FVec Ideal S1x300 .f32) (H : Fin 1200 → Fin 300 → ℝ) (e : Fin 8)
    (hh : ∀ i o, h (ix2 i o) = ((H i o : ℝ) : EReal)) (hw1 : ∀ f d, w1 (ix3 0 f d) = ((p.W1 e f d : ℝ) : EReal))
    (hb1 : ∀ f, b1 (ix2 0 f) = ((p.b1 e f : ℝ) : EReal)) (hw2 : ∀ o f, w2 (ix3 0 o f) = ((p.W2 e o f : ℝ) : EReal))
    (hb2 : ∀ o, b2 (ix2 0 o) = ((p.b2 e o : ℝ) : EReal)) (i : Fin 1200) (o : Fin 300) :
    expertB h w1 b1 w2 b2 (ix2 i o) = ((expert p (H i) e o : ℝ) : EReal) := by
  pointwise [expertB, hiddenB]
  rw [dot_eq (fun f => ?_) (fun f => hw2 o f), hb2, ← EReal.coe_add, expert]
  rw [dot_eq (fun d => hh i d) (fun d => hw1 f d), hb1, ← EReal.coe_add, ← EReal.coe_zero]
  exact (EReal.coe_strictMono.monotone.map_max).symm

/-- The plain sum of the experts. -/
theorem plain_val (o : Fin 8 → FVec Ideal S1200x300 .f32) (O : Fin 8 → Fin 1200 → Fin 300 → ℝ)
    (ho : ∀ e i d, o e (ix2 i d) = ((O e i d : ℝ) : EReal)) (i : Fin 1200) (d : Fin 300) :
    plainB o (ix2 i d) = ((∑ e, O e i d : ℝ) : EReal) := by
  pointwise [plainB, addB, zeroB]
  rw [← sum_eq fun e => ho e i d]
  simp only [Fin.sum_univ_eight]

/-- The gated sum of the experts. -/
theorem mix_val (g : FVec Ideal S1200x8 .f32) (o : Fin 8 → FVec Ideal S1200x300 .f32) (G : Fin 1200 → Fin 8 → ℝ)
    (O : Fin 8 → Fin 1200 → Fin 300 → ℝ) (hg : ∀ i e, g (ix2 i e) = ((G i e : ℝ) : EReal))
    (ho : ∀ e i d, o e (ix2 i d) = ((O e i d : ℝ) : EReal)) (i : Fin 1200) (d : Fin 300) :
    mixB g o (ix2 i d) = ((∑ e, G i e * O e i d : ℝ) : EReal) := by
  pointwise [mixB, gatedB, zeroB]
  rw [← dot_eq (fun e => hg i e) fun e => ho e i d]
  simp only [Fin.sum_univ_eight]

end Cert.KernelIdeal.Blocks

end
-- ==== Proof.Inputs.lean ====
/- The thirteen argument arrays as real tables: what it means that they hold the numbers of `Params` and
   of the input rows, and that finite arrays hold such numbers. -/
module

public import proofs.«01_k».proof.KernelIdeal
public import proofs.«01_k».proof.Proof.Reals

@[expose] public section

noncomputable section

namespace Cert.Inputs

open Cert.KernelIdeal Cert.Spec Idealize.ShloMosaic

/-- The argument arrays hold the real numbers of `p` and of the rows `X`. -/
structure Holds (p : Params) (X : Fin 32 → Fin 300 → Fin 768 → ℝ) (a0 : S32x300x768.Idx → EReal) (a1 : S768.Idx → EReal)
    (a2 : S300x768.Idx → EReal) (a3 a4 a5 : S4x16x300.Idx → EReal) (a6 : S300x64.Idx → EReal) (a7 : S300.Idx → EReal)
    (a8 : S300x8.Idx → EReal) (a9 : S8x600x300.Idx → EReal) (a10 : S8x600.Idx → EReal) (a11 : S8x300x600.Idx → EReal)
    (a12 : S8x300.Idx → EReal) : Prop where
  x : ∀ b t d, a0 (ix3 b t d) = ((X b t d : ℝ) : EReal)
  bw : ∀ d, a1 (ix1 d) = ((p.bw d : ℝ) : EReal)
  W : ∀ o d, a2 (ix2 o d) = ((p.W o d : ℝ) : EReal)
  Wk : ∀ h j o, a3 (ix3 h j o) = ((p.Wk h j o : ℝ) : EReal)
  Wq : ∀ h j o, a4 (ix3 h j o) = ((p.Wq h j o : ℝ) : EReal)
  Wv : ∀ h j o, a5 (ix3 h j o) = ((p.Wv h j o : ℝ) : EReal)
  Wp : ∀ o f, a6 (ix2 o f) = ((p.Wp o f : ℝ) : EReal)
  bp : ∀ o, a7 (ix1 o) = ((p.bp o : ℝ) : EReal)
  wg : ∀ d e, a8 (ix2 d e) = ((p.wg d e : ℝ) : EReal)
  W1 : ∀ e f d, a9 (ix3 e f d) = ((p.W1 e f d : ℝ) : EReal)
  b1 : ∀ e f, a10 (ix2 e f) = ((p.b1 e f : ℝ) : EReal)
  W2 : ∀ e o f, a11 (ix3 e o f) = ((p.W2 e o f : ℝ) : EReal)
  b2 : ∀ e o, a12 (ix2 e o) = ((p.b2 e o : ℝ) : EReal)

/-- A value whose absolute value is below plus infinity is a real number. -/
theorem coe_toReal_of_abs_lt (x : EReal) (h : max x (-x) < ⊤) : x = ((x.toReal : ℝ) : EReal) := by
  refine (EReal.coe_toReal ?_ ?_).symm
  · rintro rfl; simp at h
  · rintro rfl; simp at h

/-- Arrays all of whose entries are finite hold the real numbers their entries are. -/
theorem exists_holds (a0 : S32x300x768.Idx → EReal) (a1 : S768.Idx → EReal)
    (a2 : S300x768.Idx → EReal) (a3 a4 a5 : S4x16x300.Idx → EReal) (a6 : S300x64.Idx → EReal) (a7 : S300.Idx → EReal)
    (a8 : S300x8.Idx → EReal) (a9 : S8x600x300.Idx → EReal) (a10 : S8x600.Idx → EReal) (a11 : S8x300x600.Idx → EReal)
    (a12 : S8x300.Idx → EReal) (h0 : ∀ i, max (a0 i) (-a0 i) < ⊤) (h1 : ∀ i, max (a1 i) (-a1 i) < ⊤) (h2 : ∀ i, max (a2 i) (-a2 i) < ⊤)
    (h3 : ∀ i, max (a3 i) (-a3 i) < ⊤) (h4 : ∀ i, max (a4 i) (-a4 i) < ⊤) (h5 : ∀ i, max (a5 i) (-a5 i) < ⊤)
    (h6 : ∀ i, max (a6 i) (-a6 i) < ⊤) (h7 : ∀ i, max (a7 i) (-a7 i) < ⊤) (h8 : ∀ i, max (a8 i) (-a8 i) < ⊤)
    (h9 : ∀ i, max (a9 i) (-a9 i) < ⊤) (h10 : ∀ i, max (a10 i) (-a10 i) < ⊤) (h11 : ∀ i, max (a11 i) (-a11 i) < ⊤)
    (h12 : ∀ i, max (a12 i) (-a12 i) < ⊤) : ∃ p X, Holds p X a0 a1 a2 a3 a4 a5 a6 a7 a8 a9 a10 a11 a12 :=
  ⟨{ bw := fun d => (a1 (ix1 d)).toReal
     W := fun o d => (a2 (ix2 o d)).toReal
     Wk := fun h j o => (a3 (ix3 h j o)).toReal
     Wq := fun h j o => (a4 (ix3 h j o)).toReal
     Wv := fun h j o => (a5 (ix3 h j o)).toReal
     Wp := fun o f => (a6 (ix2 o f)).toReal
     bp := fun o => (a7 (ix1 o)).toReal
     wg := fun d e => (a8 (ix2 d e)).toReal
     W1 := fun e f d => (a9 (ix3 e f d)).toReal
     b1 := fun e f => (a10 (ix2 e f)).toReal
     W2 := fun e o f => (a11 (ix3 e o f)).toReal
     b2 := fun e o => (a12 (ix2 e o)).toReal }, fun b t d => (a0 (ix3 b t d)).toReal,
   { x := fun _ _ _ => coe_toReal_of_abs_lt _ (h0 _)
     bw := fun _ => coe_toReal_of_abs_lt _ (h1 _)
     W := fun _ _ => coe_toReal_of_abs_lt _ (h2 _)
     Wk := fun _ _ _ => coe_toReal_of_abs_lt _ (h3 _)
     Wq := fun _ _ _ => coe_toReal_of_abs_lt _ (h4 _)
     Wv := fun _ _ _ => coe_toReal_of_abs_lt _ (h5 _)
     Wp := fun _ _ => coe_toReal_of_abs_lt _ (h6 _)
     bp := fun _ => coe_toReal_of_abs_lt _ (h7 _)
     wg := fun _ _ => coe_toReal_of_abs_lt _ (h8 _)
     W1 := fun _ _ _ => coe_toReal_of_abs_lt _ (h9 _)
     b1 := fun _ _ => coe_toReal_of_abs_lt _ (h10 _)
     W2 := fun _ _ _ => coe_toReal_of_abs_lt _ (h11 _)
     b2 := fun _ _ => coe_toReal_of_abs_lt _ (h12 _) }⟩

end Cert.Inputs

end
-- ==== Proof.Array.lean ====
/- What the kernel's output array holds: the blocks the grid points read, what a point's body leaves in
   its output block, and from these the whole array. -/
module

public import proofs.«01_k».proof.Proof.Blocks
public import proofs.«01_k».proof.Proof.Inputs
public import proofs.«01_k».proof.Proof.Gen.KernelIdeal.Value
public import Idealize.ShloMosaic.Lib.Pipeline.ValueKit

@[expose] public section

set_option synthInstance.maxSize 4096
set_option maxRecDepth 16384

noncomputable section

namespace Cert.KernelIdeal.Array

open Cert.KernelIdeal Cert.KernelIdeal.Gen Cert.KernelIdeal.Model Cert.KernelIdeal.Blocks Cert.Spec Cert.Reals Cert.Inputs
open Idealize.ShloMosaic Idealize.ShloMosaic.TcCoe Idealize.SL.Sem

/-! ## A point's body -/

section body

variable (p : Params) (X : Fin 4 → Fin 300 → Fin 768 → ℝ)
  (x0 : Vec Ideal S4x300x768 .f32) (x1 : Vec Ideal S1x768 .f32) (x2 : Vec Ideal S300x768 .bf16) (x3 : Vec Ideal S192x300 .bf16)
  (x4 : Vec Ideal S300x64 .bf16) (x5 : Vec Ideal S1x300 .f32) (x6 : Vec Ideal S300x8 .bf16) (x7 : Vec Ideal S8x600x300 .bf16)
  (x8 : Vec Ideal S8x600 .bf16) (x9 : Vec Ideal S8x300x600 .bf16) (x10 : Vec Ideal S8x300 .f32)

/-- The input blocks of a point hold the real numbers of `p` and of the rows `X` of its four batch entries. -/
structure BlockHolds : Prop where
  x : ∀ b t d, x0 (ix3 b t d) = ((X b t d : ℝ) : EReal)
  bw : ∀ d, x1 (ix2 0 d) = ((p.bw d : ℝ) : EReal)
  W : ∀ o d, x2 (ix2 o d) = ((p.W o d : ℝ) : EReal)
  wqkv : ∀ j o, x3 (ix2 j o) = ((wqkv p j o : ℝ) : EReal)
  Wp : ∀ o f, x4 (ix2 o f) = ((p.Wp o f : ℝ) : EReal)
  bp : ∀ o, x5 (ix2 0 o) = ((p.bp o : ℝ) : EReal)
  wg : ∀ d e, x6 (ix2 d e) = ((p.wg d e : ℝ) : EReal)
  W1 : ∀ e f d, x7 (ix3 e f d) = ((p.W1 e f d : ℝ) : EReal)
  b1 : ∀ e f, x8 (ix2 e f) = ((p.b1 e f : ℝ) : EReal)
  W2 : ∀ e o f, x9 (ix3 e o f) = ((p.W2 e o f : ℝ) : EReal)
  b2 : ∀ e o, x10 (ix2 e o) = ((p.b2 e o : ℝ) : EReal)

variable {p X x0 x1 x2 x3 x4 x5 x6 x7 x8 x9 x10} (H : BlockHolds p X x0 x1 x2 x3 x4 x5 x6 x7 x8 x9 x10)
include H

/-- The rows of one batch entry of the block, read at the rectangle `r` of that entry. -/
theorem entry_val (b : Fin 4) (v : Vec Ideal S1x300x768 .f32) (hv : ∀ t d, v (ix3 0 t d) = x0 (ix3 b t d)) (t o : Fin 300) :
    rowB k0_pay1 (qkvB v (View.ld x1 r0_1) (View.ld x2 r0_2) (View.ld x3 r0_3)) (View.ld x4 r0_4) (View.ld x5 r0_5) (ix2 t o)
      = ((row p (X b) t o : ℝ) : EReal) :=
  row_val p (X b) _ _ _ (qkv_val p (X b) _ _ _ _ (fun t d => by rw [hv, H.x]) (fun d => by pointwise; exact H.bw d)
    (fun o d => by pointwise; exact H.W o d) (fun j o => by pointwise; exact H.wqkv j o)) (fun o f => by pointwise; exact H.Wp o f)
    (fun o => by pointwise; exact H.bp o) t o

/-- The rows of the block's four batch entries. -/
theorem h_val (i : Fin 1200) (o : Fin 300) :
    hB x0 x1 x2 x3 x4 x5 (ix2 i o) = ((row p (X ⟨i.1 / 300, by omega⟩) ⟨i.1 % 300, by omega⟩ o : ℝ) : EReal) := by
  refine rows_val _ _ _ _ (fun b => row p (X b)) (entry_val H 0 _ ?_) (entry_val H 1 _ ?_) (entry_val H 2 _ ?_) (entry_val H 3 _ ?_) i _ _ o
    (by simp only; omega) <;> intro t d <;> pointwise

/-- The experts on the block's rows. -/
theorem experts_val (e : Fin 8) (i : Fin 1200) (o : Fin 300) :
    expertsB (hB x0 x1 x2 x3 x4 x5) x7 x8 x9 x10 e (ix2 i o)
      = ((expert p (row p (X ⟨i.1 / 300, by omega⟩) ⟨i.1 % 300, by omega⟩) e o : ℝ) : EReal) := by
  unfold expertsB
  have h := h_val H
  generalize hB x0 x1 x2 x3 x4 x5 = hb at h
  fin_cases e <;>
    refine expert_val p hb _ _ _ _ (fun i => row p (X ⟨i.1 / 300, by omega⟩) ⟨i.1 % 300, by omega⟩) _ h ?_ ?_ ?_ ?_ i o <;> intros <;> pointwise <;>
    first | exact H.W1 _ _ _ | exact H.b1 _ _ | exact H.W2 _ _ _ | exact H.b2 _ _

/-- What a point's body leaves in its output block: the layer's output for each of its four batch entries. -/
theorem out_val (b : Fin 4) (t o : Fin 300) :
    out0_11 x0 x1 x2 x3 x4 x5 x6 x7 x8 x9 x10 (ix3 b t o) = ((out p (X b) t o : ℝ) : EReal) := by
  have hl := logit_val p (hB x0 x1 x2 x3 x4 x5) (View.ld x6 r0_9) (fun i => row p (X ⟨i.1 / 300, by omega⟩) ⟨i.1 % 300, by omega⟩) (h_val H)
    (fun d e => by pointwise; exact H.wg d e)
  have hg := gate_val _ _ hl
  have hm := mix_val _ _ _ _ hg (experts_val H)
  have hp := plain_val _ _ (experts_val H)
  rw [out_eq]
  generalize gateB (logitB (hB x0 x1 x2 x3 x4 x5) (View.ld x6 r0_9)) = g at hm
  generalize expertsB (hB x0 x1 x2 x3 x4 x5) x7 x8 x9 x10 = oo at hm hp
  have hb := b.2
  have ht := t.2
  have e1 : (⟨(b.1 * 300 + t.1) / 300, by omega⟩ : Fin 4) = b := Fin.ext (by simp only; omega)
  have e2 : (⟨(b.1 * 300 + t.1) % 300, by omega⟩ : Fin 300) = t := Fin.ext (by simp only; omega)
  rw [View.canon_cons_unit_lit (h := by decide)]
  pointwise [storeB]
  rw [hm, hp, ← EReal.coe_mul, out, mix]
  simp only [e1, e2]

end body

/-! ## The blocks a point reads -/

variable (m : (ℓ : Loc nD τ sig) → Buf (Elt Ideal) ℓ) (c : Dev nD)

/-- Which block each window reads at each point. -/
theorem idx : ∀ t : Fin cfg0.N, win0_0.index t = ![t.1, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] ∧ win0_8.index t = ![0, 0]
    ∧ win0_9.index t = ![0, 0, 0] ∧ win0_10.index t = ![0, 0] ∧ win0_11.index t = ![t.1, 0, 0] := by decide +kernel

/-- Three tables of head weights, each as 64 rows, one below the other. -/
def stackB (q k v : FVec Ideal S4x16x300 .f32) : FVec Ideal S192x300 .bf16 :=
  truncf .bf16 (concatenate S192x300 0
    [⟨S64x300, shapeCast S64x300 q shapeCasts_S4x16x300_S64x300⟩, ⟨S64x300, shapeCast S64x300 k shapeCasts_S4x16x300_S64x300⟩,
     ⟨S64x300, shapeCast S64x300 v shapeCasts_S4x16x300_S64x300⟩]
    concatenates_S64x300_S64x300_S64x300_S192x300_d0) bitsLt_bf16_f32

/-- The stacked weights the region finds. -/
theorem entry_wqkv : V m c main_v6
    = stackB (m ((c : Thread nD τ).loc main_arg4)) (m ((c : Thread nD τ).loc main_arg3)) (m ((c : Thread nD τ).loc main_arg5)) := rfl

/-- The stacked weights hold the queries' rows, then the keys', then the values'. -/
theorem stack_val (p : Params) (q k v : FVec Ideal S4x16x300 .f32) (hq : ∀ h j o, q (ix3 h j o) = ((p.Wq h j o : ℝ) : EReal))
    (hk : ∀ h j o, k (ix3 h j o) = ((p.Wk h j o : ℝ) : EReal)) (hv : ∀ h j o, v (ix3 h j o) = ((p.Wv h j o : ℝ) : EReal))
    (j : Fin 192) (o : Fin 300) : stackB q k v (ix2 j o) = ((wqkv p j o : ℝ) : EReal) := by
  have hj := j.2
  rw [wqkv]
  pointwise [stackB]
  by_cases h1 : j.1 < 64
  · rw [dif_pos h1, hq, show (⟨j.1 / 64, by omega⟩ : Fin 3) = 0 from Fin.ext (by simp only [Fin.val_zero]; omega)]
    simp only [part, Matrix.cons_val_zero]
    exact congrArg₂ (fun h d => ((p.Wq h d o : ℝ) : EReal)) (Fin.ext (by simp only; omega)) (Fin.ext (by simp only))
  by_cases h2 : j.1 - 64 < 64
  · rw [dif_neg h1, dif_pos h2, hk, show (⟨j.1 / 64, by omega⟩ : Fin 3) = 1 from Fin.ext (by simp only [Fin.val_one]; omega)]
    simp only [part, Matrix.cons_val_one, Matrix.cons_val_zero]
    exact congrArg₂ (fun h d => ((p.Wk h d o : ℝ) : EReal)) (Fin.ext (by simp only; omega)) (Fin.ext (by simp only; omega))
  · rw [dif_neg h1, dif_neg h2, hv, show (⟨j.1 / 64, by omega⟩ : Fin 3) = 2 from Fin.ext (by simp only [Fin.val_two]; omega)]
    simp only [part, Matrix.cons_val]
    exact congrArg₂ (fun h d => ((p.Wv h d o : ℝ) : EReal)) (Fin.ext (by simp only; omega)) (Fin.ext (by simp only; omega))

/-- The batch entry a point's block row `b` is. -/
def entryAt (t : Fin cfg0.N) (b : Fin 4) : Fin 32 := ⟨4 * t.1 + b.1, by have := t.2; have := b.2; change t.1 < 8 at *; omega⟩

/-! Each window's block at a point, read out of the argument array it comes from. -/

theorem read0 (t : Fin cfg0.N) (b : Fin 4) (q : Fin 300) (d : Fin 768) :
    iblk m c 0 t (ix3 b q d) = m ((c : Thread nD τ).loc main_arg0) (ix3 (entryAt t b) q d) := by
  blk_ext [iblk, V, entryAt, idx t]

theorem read3 (t : Fin cfg0.N) (j : Fin 192) (o : Fin 300) : iblk m c 3 t (ix2 j o) = V m c main_v6 (ix2 j o) := by
  blk_ext! [iblk, idx t]

theorem read1 (t : Fin cfg0.N) (d : Fin 768) : iblk m c 1 t (ix2 0 d) = m ((c : Thread nD τ).loc main_arg1) (ix1 d) := by
  blk_ext! [iblk, V, idx t]

theorem read2 (t : Fin cfg0.N) (o : Fin 300) (d : Fin 768) : iblk m c 2 t (ix2 o d) = m ((c : Thread nD τ).loc main_arg2) (ix2 o d) := by
  blk_ext! [iblk, V, idx t]

theorem read4 (t : Fin cfg0.N) (o : Fin 300) (f : Fin 64) : iblk m c 4 t (ix2 o f) = m ((c : Thread nD τ).loc main_arg6) (ix2 o f) := by
  blk_ext! [iblk, V, idx t]

theorem read5 (t : Fin cfg0.N) (o : Fin 300) : iblk m c 5 t (ix2 0 o) = m ((c : Thread nD τ).loc main_arg7) (ix1 o) := by
  blk_ext! [iblk, V, idx t]

theorem read6 (t : Fin cfg0.N) (d : Fin 300) (e : Fin 8) : iblk m c 6 t (ix2 d e) = m ((c : Thread nD τ).loc main_arg8) (ix2 d e) := by
  blk_ext! [iblk, V, idx t]

theorem read7 (t : Fin cfg0.N) (e : Fin 8) (f : Fin 600) (d : Fin 300) : iblk m c 7 t (ix3 e f d) = m ((c : Thread nD τ).loc main_arg9) (ix3 e f d) := by
  blk_ext! [iblk, V, idx t]

theorem read8 (t : Fin cfg0.N) (e : Fin 8) (f : Fin 600) : iblk m c 8 t (ix2 e f) = m ((c : Thread nD τ).loc main_arg10) (ix2 e f) := by
  blk_ext! [iblk, V, idx t]

theorem read9 (t : Fin cfg0.N) (e : Fin 8) (o : Fin 300) (f : Fin 600) : iblk m c 9 t (ix3 e o f) = m ((c : Thread nD τ).loc main_arg11) (ix3 e o f) := by
  blk_ext! [iblk, V, idx t]

theorem read10 (t : Fin cfg0.N) (e : Fin 8) (o : Fin 300) : iblk m c 10 t (ix2 e o) = m ((c : Thread nD τ).loc main_arg12) (ix2 e o) := by
  blk_ext! [iblk, V, idx t]

/-- The argument arrays of a memory hold the real numbers of `p` and of the rows `X`. -/
abbrev Held (p : Params) (X : Fin 32 → Fin 300 → Fin 768 → ℝ) : Prop := Holds p X
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

variable {p : Params} {X : Fin 32 → Fin 300 → Fin 768 → ℝ} {m c}

/-- On argument arrays that hold real numbers, the blocks a point reads hold those of its four batch entries. -/
theorem block_holds (H : Held m c p X) (t : Fin cfg0.N) :
    BlockHolds p (fun b => X (entryAt t b)) (iblk m c 0 t) (iblk m c 1 t) (iblk m c 2 t)
      (iblk m c 3 t) (iblk m c 4 t) (iblk m c 5 t) (iblk m c 6 t) (iblk m c 7 t) (iblk m c 8 t) (iblk m c 9 t) (iblk m c 10 t) where
  x b q d := (read0 m c t b q d).trans (H.x _ q d)
  bw d := (read1 m c t d).trans (H.bw d)
  W o d := (read2 m c t o d).trans (H.W o d)
  wqkv j o := (read3 m c t j o).trans ((congrFun (entry_wqkv m c) _).trans (stack_val p _ _ _ H.Wq H.Wk H.Wv j o))
  Wp o f := (read4 m c t o f).trans (H.Wp o f)
  bp o := (read5 m c t o).trans (H.bp o)
  wg d e := (read6 m c t d e).trans (H.wg d e)
  W1 e f d := (read7 m c t e f d).trans (H.W1 e f d)
  b1 e f := (read8 m c t e f).trans (H.b1 e f)
  W2 e o f := (read9 m c t e o f).trans (H.W2 e o f)
  b2 e o := (read10 m c t e o).trans (H.b2 e o)

/-- The output array after the run: the layer's output for every batch entry. -/
theorem arr_eq (H : Held m c p X) :
    (dats m 0 c).arrAt 11 cfg0.N = fun i : S32x300x300.Idx => ((out p (X (i 0)) (i 1) (i 2) : ℝ) : EReal) := by
  refine (dats m 0 c).arrAt_eq_of_covers 11 _ (by decide +kernel) fun t hf y => ?_
  blk_simp
  rw [after0_11]
  obtain ⟨b, q, o, rfl⟩ : ∃ (b : Fin 4) (q o : Fin 300), y = ix3 b q o := ⟨y 0, y 1, y 2, eq_ix3 y⟩
  rw [out_val (block_holds H t)]
  have e : (win0_11.blk t).view.emb (ix3 b q o) = ix3 (entryAt t b) q o := by
    blk_ext [entryAt, idx t] <;> omega
  rw [e]
  rfl

end Cert.KernelIdeal.Array

end
-- ==== Proof.TopK.lean ====
/- The four largest entries of a row as the reference finds them, by a stable sort downwards: the sort puts
   entry `e` at place `rank l e`, so a sum over the first four places is a sum over the entries of rank below four. -/
module

public import Idealize.ShloMosaic.Lib.SortPrefix
public import proofs.«01_k».proof.Proof.Reals

@[expose] public section

noncomputable section

namespace Cert.TopK

open Idealize.ShloMosaic Cert.Spec

/-- A greater entry comes first. -/
def greater (l : Fin 8 → ℝ) (j e : Fin 8) : Bool := decide (l e < l j)

/-- A greater entry comes first, and of equal ones the one at the lower place. -/
def ahead (l : Fin 8 → ℝ) (j e : Fin 8) : Bool := decide (l e < l j ∨ (l j = l e ∧ j < e))

/-- On places in increasing order the stable sort by the entries alone also orders equal entries by place. -/
theorem sort_eq (l : Fin 8 → ℝ) (m : List (Fin 8)) (hm : m.Pairwise (· < ·)) :
    stableSort (greater l) m = stableSort (ahead l) m := by
  induction m with
  | nil => rfl
  | cons a m ih =>
    rw [List.pairwise_cons] at hm
    simp only [stableSort]
    rw [ih hm.2]
    refine insertBefore_congr _ _ a _ fun b hb => ?_
    have hab := hm.1 b ((perm_stableSort _ _).mem_iff.1 hb)
    simp only [greater, ahead, decide_eq_decide]
    exact ⟨Or.inl, fun h => h.resolve_right fun h => absurd hab (not_lt.2 h.2.le)⟩

/-- The place of the sorted row's entry `k` in the row. -/
def place (l : Fin 8 → ℝ) : Fin 8 → Fin 8 := sortedFrom (greater l)

/-- Every place of the row is the place of exactly one entry of the sorted row. -/
theorem place_bijective (l : Fin 8 → ℝ) : Function.Bijective (place l) := ⟨sortedFrom_injective _, sortedFrom_surjective _⟩

/-- The places are those of the sort that orders equal entries by place. -/
theorem place_eq (l : Fin 8 → ℝ) : place l = sortedFrom (ahead l) := by
  have h : sortPositions 8 (greater l) = sortPositions 8 (ahead l) := sort_eq l _ (List.pairwise_lt_finRange 8)
  funext k
  exact List.get_of_eq h _

/-- An entry never comes before one that comes before it, and one of two different entries comes first. -/
theorem ahead_total (l : Fin 8 → ℝ) : StrictTotalBefore (ahead l) where
  irrefl a := by simp [ahead]
  trans a b c := by
    simp only [ahead, decide_eq_true_eq]
    rintro (h | ⟨h, h'⟩) (k | ⟨k, k'⟩)
    · exact Or.inl (k.trans h)
    · exact Or.inl (k ▸ h)
    · exact Or.inl (h ▸ k)
    · exact Or.inr ⟨h.trans k, h'.trans k'⟩
  total a b hab := by
    simp only [ahead, decide_eq_true_eq]
    rcases lt_trichotomy (l a) (l b) with h | h | h
    · exact Or.inr (Or.inl h)
    · rcases lt_or_gt_of_ne hab with k | k
      · exact Or.inl (Or.inr ⟨h, k⟩)
      · exact Or.inr (Or.inr ⟨h.symm, k⟩)
    · exact Or.inl (Or.inl h)

/-- The sorted row's entry `k` has rank `k`. -/
theorem rank_place (l : Fin 8 → ℝ) (k : Fin 8) : rank l (place l k) = k.1 := by
  have hB := ahead_total l
  have hinj : Function.Injective (place l) := sortedFrom_injective _
  have hlt : ∀ i j, i < j → ahead l (place l i) (place l j) = true := fun i j hij => by
    have h := sortedFrom_noInversion (ahead l) (ahead l) (fun a b h => hB.asymm a b h) (fun _ _ h => h) hB.negTrans i j hij
    rw [← place_eq] at h
    exact (hB.total _ _ (hinj.ne hij.ne)).resolve_right (by rw [h]; decide)
  have hset : (Finset.univ.filter fun j => l (place l k) < l j ∨ (l j = l (place l k) ∧ j < place l k)) = (Finset.univ.filter (· < k)).image (place l) := by
    ext j
    obtain ⟨i, rfl⟩ := sortedFrom_surjective (greater l) j
    change place l i ∈ _ ↔ place l i ∈ _
    simp only [Finset.mem_filter, Finset.mem_univ, true_and, Finset.mem_image]
    constructor
    · intro h
      have h' : ahead l (place l i) (place l k) = true := by simpa [ahead] using h
      refine ⟨i, ?_, rfl⟩
      rcases lt_trichotomy i k with hik | hik | hik
      · exact hik
      · rw [hik, hB.irrefl] at h'; exact absurd h' (by decide)
      · rw [hB.asymm _ _ (hlt k i hik)] at h'; exact absurd h' (by decide)
    · rintro ⟨i', hi, he⟩
      rw [← he]
      simpa [ahead] using hlt i' k hi
  rw [rank, hset, Finset.card_image_of_injective _ hinj]
  simp [Finset.filter_gt_eq_Iio]

/-- A sum over the first four places of the sorted row is a sum over the entries of rank below four. -/
theorem sum_place {M : Type*} [AddCommMonoid M] (l : Fin 8 → ℝ) (f : Fin 8 → M) :
    ∑ k : Fin 4, f (place l ⟨k.1, by omega⟩) = ∑ e, if rank l e < 4 then f e else 0 := by
  rw [← (Equiv.ofBijective (place l) (place_bijective l)).sum_comp]
  simp only [Equiv.ofBijective_apply, rank_place]
  rw [Fin.sum_univ_eight, Fin.sum_univ_four]
  simp

/-- The gate, written as the reference computes it: the softmax over the four first entries of the sorted row, less any
    number `M`, put back in their places. -/
theorem gate_eq (l : Fin 8 → ℝ) (M : ℝ) (e : Fin 8) :
    (∑ k : Fin 4, (if place l ⟨k.1, by omega⟩ = e then 1 else 0) * (Real.exp (l (place l ⟨k.1, by omega⟩) - M)
      / ∑ k' : Fin 4, Real.exp (l (place l ⟨k'.1, by omega⟩) - M))) = gate l e := by
  rw [sum_place l fun j => Real.exp (l j - M), sum_place l fun i => (if i = e then (1 : ℝ) else 0) * (Real.exp (l i - M) / _)]
  have h1 : ∀ i, (if rank l i < 4 then Real.exp (l i - M) else 0) = kept l i * Real.exp (-M) := fun i => by
    rw [kept]; split_ifs
    · rw [sub_eq_add_neg, Real.exp_add]
    · rw [zero_mul]
  simp only [h1, ← Finset.sum_mul]
  rw [Finset.sum_eq_single e (fun i _ hi => by simp [hi]) (by simp), gate]
  have hM := (Real.exp_pos (-M)).ne'
  rw [if_pos rfl, one_mul, kept]
  split_ifs
  · rw [sub_eq_add_neg, Real.exp_add, mul_div_mul_right _ _ hM]
  · simp

end Cert.TopK

end
-- ==== Proof.Reference.lean ====
/- The reference's operations on real arguments, one stage after another: every stage holds the real
   numbers of the specification. -/
module

public import proofs.«01_k».proof.Proof.Gen.ReferenceIdeal.Read
public import proofs.«01_k».proof.Proof.Inputs
public import proofs.«01_k».proof.Proof.TopK

@[expose] public section

noncomputable section

namespace Cert.Reference

open Cert.ReferenceIdeal Cert.ReferenceIdeal.Gen Cert.ReferenceIdeal.Read Cert.Spec Cert.Reals Cert.Inputs Cert.TopK Idealize.ShloMosaic

/-- Minus infinity as the reference's literal. -/
theorem bits_bot : (FloatOps.ofBits .f32 0xFF800000#32 : Ideal .f32) = ⊥ := ofBits_bot

/-- The largest entry along the last of four axes. -/
theorem top_of_four {n0 n1 n2 n3 : ℕ} {u : Shape} (x : FVec Ideal ⟨4, ![n0, n1, n2, n3]⟩ .f32) (init : FVec Ideal u .f32)
    (hr : (⟨4, ![n0, n1, n2, n3]⟩ : Shape).ReducesTo [3] ⟨3, ![n0, n1, n2]⟩) (hu : 0 < u.numel) (a : Fin n0) (b : Fin n1) (c : Fin n2) :
    Host.reduce FloatOps.maximumf x init hr hu (ix3 a b c)
      = Finset.fold max (init (Shape.Idx.first hu)) (fun k : Fin n3 => x (ix4 a b c k)) Finset.univ := by
  rw [Host.reduce_eq_fold, Shape.ReducesTo.fold_fiber_r4_a3]
  rfl

/-- The largest entry along the last of three axes. -/
theorem top_of_three {n0 n1 n2 : ℕ} {u : Shape} (x : FVec Ideal ⟨3, ![n0, n1, n2]⟩ .f32) (init : FVec Ideal u .f32)
    (hr : (⟨3, ![n0, n1, n2]⟩ : Shape).ReducesTo [2] ⟨2, ![n0, n1]⟩) (hu : 0 < u.numel) (a : Fin n0) (b : Fin n1) :
    Host.reduce FloatOps.maximumf x init hr hu (ix2 a b)
      = Finset.fold max (init (Shape.Idx.first hu)) (fun k : Fin n2 => x (ix3 a b k)) Finset.univ := by
  rw [Host.reduce_eq_fold, Shape.ReducesTo.fold_fiber_r3_a2]
  rfl

/-- The four largest entries along the last of three axes, and their places, on a row of real numbers `l`. -/
theorem topK_val {n0 n1 : ℕ} (z : FVec Ideal ⟨3, ![n0, n1, 8]⟩ .f32) (hz : (⟨3, ![n0, n1, 8]⟩ : Shape).Slices (fun _ => 0) ⟨3, ![n0, n1, 4]⟩)
    (l : Fin 8 → ℝ) (a : Fin n0) (b : Fin n1) (hl : ∀ e, z (ix3 a b e) = ((l e : ℝ) : EReal)) (k : Fin 4) :
    (Host.topK ⟨3, ![n0, n1, 4]⟩ 2 (FloatOps.cmpfTotal (F := Ideal) (φ := .f32) .gt) z hz).1 (ix3 a b k) = ((l (place l ⟨k.1, by omega⟩) : ℝ) : EReal)
      ∧ (Host.topK ⟨3, ![n0, n1, 4]⟩ 2 (FloatOps.cmpfTotal (F := Ideal) (φ := .f32) .gt) z hz).2 (ix3 a b k) = BitVec.ofNat 32 (place l ⟨k.1, by omega⟩).1 := by
  have hal : ∀ (j : (⟨3, ![n0, n1, 8]⟩ : Shape).Idx) (e : Fin 8), j 0 = a → j 1 = b → j.along 2 e = ix3 a b e := fun j e h0 h1 => by
    funext i
    fin_cases i
    · exact h0
    · exact h1
    · rfl
  have hR : ∀ j : (⟨3, ![n0, n1, 8]⟩ : Shape).Idx, j 0 = a → j 1 = b →
      (fun e e' : Fin 8 => FloatOps.cmpfTotal (F := Ideal) (φ := .f32) .gt (z (j.along 2 e)) (z (j.along 2 e')) == 1#1) = greater l := fun j h0 h1 => by
    funext e e'
    rw [hal j e h0 h1, hal j e' h0 h1, hl, hl]
    change (BitVec.ofBool (decide (((l e' : ℝ) : EReal) < ((l e : ℝ) : EReal))) == 1#1) = decide (l e' < l e)
    by_cases h : l e' < l e <;> simp [h]
  have hj : ∀ j : (⟨3, ![n0, n1, 8]⟩ : Shape).Idx, j 0 = a → j 1 = b → j 2 = (⟨k.1, by omega⟩ : Fin 8) →
      z (j.along 2 (sortedFrom (fun e e' : Fin 8 => FloatOps.cmpfTotal (F := Ideal) (φ := .f32) .gt (z (j.along 2 e)) (z (j.along 2 e')) == 1#1) (j 2)))
          = ((l (place l ⟨k.1, by omega⟩) : ℝ) : EReal)
        ∧ BitVec.ofNat 32 ((j.along 2 (sortedFrom (fun e e' : Fin 8 => FloatOps.cmpfTotal (F := Ideal) (φ := .f32) .gt (z (j.along 2 e)) (z (j.along 2 e')) == 1#1) (j 2))) 2).1
          = BitVec.ofNat 32 (place l ⟨k.1, by omega⟩).1 := fun j h0 h1 h2 => by
    rw [hR j h0 h1, h2]
    change z (j.along 2 (place l _)) = _ ∧ BitVec.ofNat 32 ((j.along 2 (place l _)) 2).1 = _
    rw [hal j _ h0 h1, hl]
    exact ⟨rfl, rfl⟩
  unfold Host.topK Host.sort2
  pointwise
  exact hj _ (Fin.ext (by simp [Shape.Idx.norm])) (Fin.ext (by simp [Shape.Idx.norm])) (Fin.ext (by simp [Shape.Idx.norm]))

/-- The mask's condition: the lower triangle of ones is zero exactly where the key comes after the query. -/
theorem mask_zero (t u : Fin 300) :
    (Scalar.select (IntOp.cmpi CmpIPredicate.sge (IntOp.addi (BitVec.ofNat 32 t.1) 0#32) (BitVec.ofNat 32 u.1)) (1 : EReal) 0 = 0) ↔ ¬ u ≤ t := by
  have e : IntOp.cmpi CmpIPredicate.sge (IntOp.addi (BitVec.ofNat 32 t.1) 0#32) (BitVec.ofNat 32 u.1)
      = IntOp.cmpi .sle (BitVec.ofNat 32 u.1) (BitVec.ofNat 32 t.1) := by simp [IntOp.cmpi, IntOp.addi]
  rw [e, select_le]
  split_ifs with h <;> simp [h]

variable {p : Params} {X : Fin 32 → Fin 300 → Fin 768 → ℝ} {a0 : S32x300x768.Idx → EReal} {a1 : S768.Idx → EReal}
  {a2 : S300x768.Idx → EReal} {a3 a4 a5 : S4x16x300.Idx → EReal} {a6 : S300x64.Idx → EReal} {a7 : S300.Idx → EReal}
  {a8 : S300x8.Idx → EReal} {a9 : S8x600x300.Idx → EReal} {a10 : S8x600.Idx → EReal} {a11 : S8x300x600.Idx → EReal}
  {a12 : S8x300.Idx → EReal} (H : Holds p X a0 a1 a2 a3 a4 a5 a6 a7 a8 a9 a10 a11 a12)

include H

/-- The hidden rows. -/
theorem hid_val (b : Fin 32) (t o : Fin 300) :
    val_main_v3 (F := Ideal) a0 a1 a2 (ix3 b t o) = ((hid p (X b) t o : ℝ) : EReal) := by
  pointwise [val_main_v3, val_main_v2, val_main_v1, val_main_v0]
  exact dot_eq (fun d => by rw [H.x, H.bw, ← EReal.coe_sub]) fun d => H.W o d

/-- One projection of the hidden rows, for each head. -/
theorem proj_val (a : S4x16x300.Idx → EReal) (w : Fin 4 → Fin 16 → Fin 300 → ℝ) (hw : ∀ h j o, a (ix3 h j o) = ((w h j o : ℝ) : EReal))
    (b : Fin 32) (h : Fin 4) (t : Fin 300) (j : Fin 16) :
    val_main_v5 (F := Ideal) a0 a1 a2 a (ix4 b h t j) = ((proj p (X b) (w h) t j : ℝ) : EReal) := by
  have hh := hid_val H
  unfold val_main_v5 val_main_v4
  generalize val_main_v3 (F := Ideal) a0 a1 a2 = z at hh
  pointwise
  simp only [proj, mul_comm (hid _ _ _ _)]
  exact dot_eq (fun o => hw h j o) fun o => hh b t o

/-- The scaled scores. -/
theorem score_val (b : Fin 32) (h : Fin 4) (t u : Fin 300) :
    val_main_v12 (F := Ideal) a0 a1 a2 a3 a4 (ix4 b h t u) = ((score p (X b) h t u : ℝ) : EReal) := by
  have hq := proj_val H a4 p.Wq H.Wq
  have hk := proj_val H a3 p.Wk H.Wk
  unfold val_main_v12 val_main_v10
  change ∀ b h t j, val_main_v7 (F := Ideal) a0 a1 a2 a3 (ix4 b h t j) = _ at hk
  generalize val_main_v5 (F := Ideal) a0 a1 a2 a4 = q at hq
  generalize val_main_v7 (F := Ideal) a0 a1 a2 a3 = k at hk
  pointwise [val_main_v11, val_main_cst]
  rw [ofBits_scale, dot_eq (fun j => hq b h t j) fun j => hk b h u j, ← EReal.coe_mul, score]

/-- The scores with minus infinity at the keys after the query. -/
theorem masked_val (b : Fin 32) (h : Fin 4) (t u : Fin 300) :
    val_main_v17 (F := Ideal) a0 a1 a2 a3 a4 (ix4 b h t u) = if u ≤ t then ((score p (X b) h t u : ℝ) : EReal) else ⊥ := by
  have hs := score_val H
  unfold val_main_v17
  generalize val_main_v12 (F := Ideal) a0 a1 a2 a3 a4 = s at hs
  pointwise [val_main_call1_v1, val_main_v16, val_main_v14, val_main_call0_v4, val_main_call0_v2, val_main_call0_v0, val_main_call0_v1,
    val_main_call0_c, val_main_call0_v3, val_main_v13, val_main_cst_0, val_main_call0_v5, val_main_call0_cst, val_main_v15, val_main_cst_1,
    val_main_call1_v2, val_main_call1_v0, val_main_cst_2]
  by_cases hut : u ≤ t
  · rw [if_neg (fun h0 => (mask_zero t u).1 h0 hut), if_pos hut, hs]
  · rw [if_pos ((mask_zero t u).2 hut), if_neg hut]
    exact ofBits_bot

/-- The largest masked score of a query is a real number. -/
theorem top_val (b : Fin 32) (h : Fin 4) (t : Fin 300) :
    ∃ M : ℝ, val_main_v20 (F := Ideal) a0 a1 a2 a3 a4 (ix3 b h t) = (M : EReal) := by
  have hs := masked_val H
  have hr : val_main_v18 (F := Ideal) a0 a1 a2 a3 a4 (ix3 b h t) = _ :=
    top_of_four (val_main_v17 (F := Ideal) a0 a1 a2 a3 a4) (val_main_cst_3 (F := Ideal)) reducesTo_S32x4x300x300_S32x4x300_d3 h_S_ b h t
  obtain ⟨M, hM⟩ := fold_max_real (fun u => if u ≤ t then ((score p (X b) h t u : ℝ) : EReal) else ⊥)
    (fun u => by split_ifs; exacts [EReal.coe_ne_top _, bot_ne_top]) t (score p (X b) h t t) (if_pos le_rfl)
  refine ⟨M, ?_⟩
  rw [val_main_v20_apply, hr]
  simp only [hs]
  rw [val_main_cst_3_apply, val_main_v19_apply, val_main_cst_4_apply, bits_bot, hM]
  exact max_eq_right bot_le

/-- The exponentials of the masked scores less `M`, their sum, and attention. -/
theorem att_val (b : Fin 32) (h : Fin 4) (t : Fin 300) (j : Fin 16) :
    val_main_v29 (F := Ideal) a0 a1 a2 a3 a4 a5 (ix4 b h t j) = ((att p (X b) h t j : ℝ) : EReal) := by
  have hs := masked_val H
  have hv := proj_val H a5 p.Wv H.Wv
  obtain ⟨M, hM⟩ := top_val H b h t
  change ∀ b h t j, val_main_v9 (F := Ideal) a0 a1 a2 a5 (ix4 b h t j) = _ at hv
  have hw : ∀ u, val_main_v24 (F := Ideal) a0 a1 a2 a3 a4 (ix4 b h t u) = ((weight (score p (X b) h) t u * Real.exp (-M) : ℝ) : EReal) := fun u => by
    unfold val_main_v24 val_main_v23 val_main_v22 val_main_v21
    generalize val_main_v17 (F := Ideal) a0 a1 a2 a3 a4 = s at hs
    generalize val_main_v20 (F := Ideal) a0 a1 a2 a3 a4 = r at hM
    pointwise
    rw [hs, hM, weight]
    split_ifs
    · rw [← EReal.coe_sub, Ideal.exp_coe, sub_eq_add_neg, Real.exp_add]
    · rw [EReal.bot_sub, zero_mul]
      exact Ideal.exp_bot
  unfold val_main_v29 val_main_v28 val_main_v27 val_main_v26 val_main_v25
  generalize val_main_v24 (F := Ideal) a0 a1 a2 a3 a4 = s at hw
  generalize val_main_v9 (F := Ideal) a0 a1 a2 a5 = v at hv
  pointwise [val_main_cst_5]
  have hZ := weight_pos (score p (X b) h) t
  have hE := Real.exp_pos (-M)
  rw [sum_eq hw]
  have hq : ∀ u, Ideal.div (s (ix4 b h t u)) (((∑ u, weight (score p (X b) h) t u * Real.exp (-M) : ℝ)) : EReal)
      = ((weight (score p (X b) h) t u / ∑ u, weight (score p (X b) h) t u : ℝ) : EReal) := fun u => by
    rw [hw, ← Finset.sum_mul, div_eq _ _ (mul_pos hZ hE).ne', mul_div_mul_right _ _ hE.ne']
  rw [dot_eq hq fun u => hv b h u j, att, attend, Finset.sum_div]
  exact congrArg _ (Finset.sum_congr rfl fun u _ => div_mul_eq_mul_div _ _ _)

/-- The rows after the output projection. -/
theorem row_val (b : Fin 32) (t o : Fin 300) :
    val_main_v35 (F := Ideal) a0 a1 a2 a3 a4 a5 a6 a7 (ix3 b t o) = ((row p (X b) t o : ℝ) : EReal) := by
  have ha := att_val H
  unfold val_main_v35 val_main_v32 val_main_v31 val_main_v30
  generalize val_main_v29 (F := Ideal) a0 a1 a2 a3 a4 a5 = z at ha
  pointwise [val_main_v34, val_main_v33]
  rw [dot_eq (fun f : Fin 64 => ha b ⟨f.1 / 16, by omega⟩ t ⟨f.1 % 16, by omega⟩) fun f => H.Wp o f, H.bp, ← EReal.coe_add]
  rfl

/-- The gating logits. -/
theorem logit_val (b : Fin 32) (t : Fin 300) (e : Fin 8) :
    val_main_v36 (F := Ideal) a0 a1 a2 a3 a4 a5 a6 a7 a8 (ix3 b t e) = ((logit p (row p (X b) t) e : ℝ) : EReal) := by
  have hr := row_val H
  unfold val_main_v36
  generalize val_main_v35 (F := Ideal) a0 a1 a2 a3 a4 a5 a6 a7 = z at hr
  pointwise
  exact dot_eq (fun d => hr b t d) fun d => H.wg d e

/-- The experts. -/
theorem expert_val (b : Fin 32) (t : Fin 300) (e : Fin 8) (o : Fin 300) :
    val_main_v59 (F := Ideal) a0 a1 a2 a3 a4 a5 a6 a7 a9 a10 a11 a12 (ix4 b t e o) = ((expert p (row p (X b) t) e o : ℝ) : EReal) := by
  have hr := row_val H
  unfold val_main_v59 val_main_v56 val_main_v55 val_main_v54 val_main_v53 val_main_v50
  generalize val_main_v35 (F := Ideal) a0 a1 a2 a3 a4 a5 a6 a7 = z at hr
  pointwise [val_main_v58, val_main_v57, val_main_v52, val_main_v51, val_main_call3_v0, val_main_call3_cst]
  rw [dot_eq (fun f => H.W2 e o f) fun f => (show _ = ((max ((∑ d, row p (X b) t d * p.W1 e f d) + p.b1 e f) 0 : ℝ) : EReal) by
    rw [dot_eq (fun d => hr b t d) fun d => H.W1 e f d, H.b1, ← EReal.coe_add]
    exact (EReal.coe_strictMono.monotone.map_max (a := _) (b := (0 : ℝ))).symm), H.b2, ← EReal.coe_add, expert]
  exact congrArg _ (congrArg (· + _) (Finset.sum_congr rfl fun f _ => mul_comm _ _))

/-- The four largest logits of a row, largest first. -/
theorem values_val (b : Fin 32) (t : Fin 300) (k : Fin 4) :
    val_main_values (F := Ideal) a0 a1 a2 a3 a4 a5 a6 a7 a8 (ix3 b t k)
      = ((logit p (row p (X b) t) (place (logit p (row p (X b) t)) ⟨k.1, by omega⟩) : ℝ) : EReal) :=
  (topK_val (val_main_v36 (F := Ideal) a0 a1 a2 a3 a4 a5 a6 a7 a8) sliceFits_S32x300x8_S32x300x4 _ b t (logit_val H b t) k).1

/-- The experts they belong to. -/
theorem indices_val (b : Fin 32) (t : Fin 300) (k : Fin 4) :
    val_main_indices (F := Ideal) a0 a1 a2 a3 a4 a5 a6 a7 a8 (ix3 b t k)
      = BitVec.ofNat 32 (place (logit p (row p (X b) t)) ⟨k.1, by omega⟩).1 :=
  (topK_val (val_main_v36 (F := Ideal) a0 a1 a2 a3 a4 a5 a6 a7 a8) sliceFits_S32x300x8_S32x300x4 _ b t (logit_val H b t) k).2

/-- The largest of the four is a real number. -/
theorem top_logit_val (b : Fin 32) (t : Fin 300) :
    ∃ M : ℝ, val_main_v39 (F := Ideal) a0 a1 a2 a3 a4 a5 a6 a7 a8 (ix2 b t) = (M : EReal) := by
  have hr : val_main_v37 (F := Ideal) a0 a1 a2 a3 a4 a5 a6 a7 a8 (ix2 b t) = _ :=
    top_of_three (val_main_values (F := Ideal) a0 a1 a2 a3 a4 a5 a6 a7 a8) (val_main_cst_6 (F := Ideal)) reducesTo_S32x300x4_S32x300_d2 h_S_ b t
  obtain ⟨M, hM⟩ := fold_max_real (fun k : Fin 4 => ((logit p (row p (X b) t) (place (logit p (row p (X b) t)) ⟨k.1, by omega⟩) : ℝ) : EReal))
    (fun k => EReal.coe_ne_top _) 0 _ rfl
  refine ⟨M, ?_⟩
  rw [val_main_v39_apply, hr]
  simp only [values_val H]
  rw [val_main_cst_6_apply, val_main_v38_apply, val_main_cst_7_apply, bits_bot, hM]
  exact max_eq_right bot_le

/-- The gate of every expert, zero for those not among the four. -/
theorem gate_val (b : Fin 32) (t : Fin 300) (e : Fin 8) :
    val_main_v49 (F := Ideal) a0 a1 a2 a3 a4 a5 a6 a7 a8 (ix3 b t e) = ((gate (logit p (row p (X b) t)) e : ℝ) : EReal) := by
  obtain ⟨M, hM⟩ := top_logit_val H b t
  have hs := values_val H b t
  have hi := indices_val H b t
  generalize logit p (row p (X b) t) = l at hs hi
  have hw : ∀ k : Fin 4, val_main_v43 (F := Ideal) a0 a1 a2 a3 a4 a5 a6 a7 a8 (ix3 b t k)
      = ((Real.exp (l (place l ⟨k.1, by omega⟩) - M) : ℝ) : EReal) := fun k => by
    unfold val_main_v43 val_main_v42 val_main_v41 val_main_v40
    generalize val_main_values (F := Ideal) a0 a1 a2 a3 a4 a5 a6 a7 a8 = s at hs
    generalize val_main_v39 (F := Ideal) a0 a1 a2 a3 a4 a5 a6 a7 a8 = r at hM
    pointwise
    rw [hs, hM, ← EReal.coe_sub, Ideal.exp_coe]
  have hpos : 0 < ∑ k : Fin 4, Real.exp (l (place l ⟨k.1, by omega⟩) - M) := Finset.sum_pos (fun _ _ => Real.exp_pos _) Finset.univ_nonempty
  have hd : ∀ k : Fin 4, val_main_v47 (F := Ideal) a0 a1 a2 a3 a4 a5 a6 a7 a8 (ix3 b t k)
      = ((Real.exp (l (place l ⟨k.1, by omega⟩) - M) / ∑ k' : Fin 4, Real.exp (l (place l ⟨k'.1, by omega⟩) - M) : ℝ) : EReal) := fun k => by
    unfold val_main_v47 val_main_v46 val_main_v45 val_main_v44
    generalize val_main_v43 (F := Ideal) a0 a1 a2 a3 a4 a5 a6 a7 a8 = s at hw
    pointwise [val_main_cst_8]
    rw [sum_eq hw, hw, div_eq _ _ hpos.ne']
  have hh : ∀ k : Fin 4, val_main_v48 (F := Ideal) a0 a1 a2 a3 a4 a5 a6 a7 a8 (ix4 b t k e)
      = (((if place l ⟨k.1, by omega⟩ = e then 1 else 0 : ℝ)) : EReal) := fun k => by
    unfold val_main_v48 val_main_call2_v4 val_main_call2_v2 val_main_call2_v0
    generalize val_main_indices (F := Ideal) a0 a1 a2 a3 a4 a5 a6 a7 a8 = s at hi
    pointwise [val_main_call2_v3, val_main_call2_v1]
    rw [hi, WordCmp.cmpi_eq_ofNat (by have := (place l ⟨k.1, by omega⟩).2; omega) (by have := e.2; omega)]
    change (((BitVec.toNat _ : ℕ) : ℝ) : EReal) = _
    by_cases h : place l ⟨k.1, by omega⟩ = e <;> simp [h, Fin.ext_iff.symm]
  unfold val_main_v49
  generalize val_main_v48 (F := Ideal) a0 a1 a2 a3 a4 a5 a6 a7 a8 = s at hh
  generalize val_main_v47 (F := Ideal) a0 a1 a2 a3 a4 a5 a6 a7 a8 = r at hd
  pointwise
  rw [dot_eq hh hd, gate_eq]

/-- The reference's result: the layer's output for every batch entry. -/
theorem out_val (b : Fin 32) (t o : Fin 300) :
    val_main_v64 (F := Ideal) a0 a1 a2 a3 a4 a5 a6 a7 a8 a9 a10 a11 a12 (ix3 b t o) = ((out p (X b) t o : ℝ) : EReal) := by
  have hg := gate_val H b t
  have he := expert_val H b t
  have hm : val_main_v60 (F := Ideal) a0 a1 a2 a3 a4 a5 a6 a7 a8 a9 a10 a11 a12 (ix3 b t o)
      = ((∑ e, gate (logit p (row p (X b) t)) e * expert p (row p (X b) t) e o : ℝ) : EReal) := by
    unfold val_main_v60
    generalize val_main_v49 (F := Ideal) a0 a1 a2 a3 a4 a5 a6 a7 a8 = g at hg
    generalize val_main_v59 (F := Ideal) a0 a1 a2 a3 a4 a5 a6 a7 a9 a10 a11 a12 = z at he
    pointwise
    exact dot_eq hg fun e => he e o
  unfold val_main_v64 val_main_v63 val_main_v62 val_main_v61
  generalize val_main_v60 (F := Ideal) a0 a1 a2 a3 a4 a5 a6 a7 a8 a9 a10 a11 a12 = g at hm
  generalize val_main_v59 (F := Ideal) a0 a1 a2 a3 a4 a5 a6 a7 a9 a10 a11 a12 = z at he
  pointwise [val_main_cst_9]
  rw [dot_eq (fun _ => hm) fun e => he e o, out, mix, Finset.mul_sum]

end Cert.Reference

end
-- ==== Proof.lean ====
/- The certificate's claims. The kernel at its own formats, the kernel over the extended reals and the reference
   each run, change no argument and leave every counter at zero; the named mask constant stands for minus infinity;
   and on finite arguments the kernel and the reference, over the extended reals, end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Array
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The bit pattern of the positive infinity reads as the top of the extended reals. -/
theorem inf_bits : (FloatOps.ofBits (F := Ideal) .f32 0x7F800000#32 : EReal) = ⊤ := by
  simp [FloatOps.ofBits, Ideal.ofBits, Ideal.ieee]

/-- An array that compares below infinity in absolute value at every entry has every entry finite. -/
theorem finite_of_lt {S : Shape} (hb : Cert.Pre_finite.S_.BroadcastsInDim S (![] : Fin 0 → Fin S.rank)) (a : FVec Ideal S .f32)
    (h : cmpf .olt (Host.absf a) (broadcastInDim S ![] hb (constant Cert.Pre_finite.S_ .f32 0x7F800000#32)) = fun _ => 1#1) (i : S.Idx) :
    max (a i) (-a i) < (⊤ : EReal) := by
  have e : cmpf .olt (Host.absf a) (broadcastInDim S ![] hb (constant Cert.Pre_finite.S_ .f32 0x7F800000#32)) i = 1#1 := congrFun h i
  pointwise at e
  rw [show Ideal.ofBits .f32 0x7F800000#32 = ⊤ from inf_bits] at e
  by_contra hn
  rw [show FloatOps.absf (a i) = max (a i) (-a i) from rfl, decide_eq_false hn] at e
  exact absurd e (by decide)

open Cert.Inputs in
/-- On arguments that pass the precondition the argument arrays hold real numbers. -/
theorem exists_held [Cert.Pre_finite.Facts] (m : (ℓ : Loc Cert.KernelIdeal.nD Cert.KernelIdeal.τ Cert.KernelIdeal.sig) → Buf (Elt Ideal) ℓ)
    (hpre : Cert.Pre_KernelIdeal_finite m) (c : Dev Cert.KernelIdeal.nD) : ∃ p X, Cert.KernelIdeal.Array.Held m c p X := by
  obtain ⟨h0, h1, h2, h3, h4, h5, h6, h7, h8, h9, h10, h11, h12⟩ := hpre c
  exact exists_holds _ _ _ _ _ _ _ _ _ _ _ _ _ (finite_of_lt _ _ h0) (finite_of_lt _ _ h1) (finite_of_lt _ _ h2) (finite_of_lt _ _ h3)
    (finite_of_lt _ _ h4) (finite_of_lt _ _ h5) (finite_of_lt _ _ h6) (finite_of_lt _ _ h7) (finite_of_lt _ _ h8) (finite_of_lt _ _ h9)
    (finite_of_lt _ _ h10) (finite_of_lt _ _ h11) (finite_of_lt _ _ h12)

/-- Where the arguments hold real numbers, the array the kernel leaves is the reference's result on the same arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) {p : Cert.Spec.Params} {X : Fin 32 → Fin 300 → Fin 768 → ℝ} (H : Cert.KernelIdeal.Array.Held m c p X)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v64 m' c = (Cert.KernelIdeal.Gen.dats m 0 c).arrAt 11 Cert.KernelIdeal.cfg0.N := by
  obtain ⟨e0, e1, e2, e3, e4, e5, e6, e7, e8, e9, e10, e11, e12⟩ := hagree
  rw [Cert.KernelIdeal.Array.arr_eq H, Cert.ReferenceIdeal.Read.val_main_v64_eq, e0, e1, e2, e3, e4, e5, e6, e7, e8, e9, e10, e11, e12]
  funext i
  rw [eq_ix3 i]
  exact Cert.Reference.out_val H _ _ _

/-- The reference runs, ends with its arguments unchanged, and leaves every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run Cert.ReferenceIdeal.defs (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) ∧ r.2.sem = fun _ => 0) :=
  θ_run_mono (Cert.ReferenceIdeal.Value.run (F := Ideal) m g) fun r hr => ⟨fun c => (hr c).2, sem_eq_zero_of_no_sems (by decide) _⟩

/-- All the claims together. -/
theorem claim : Cert.Claim := ⟨Cert.Kernel.Gen.facts, Cert.KernelIdeal.Gen.facts, Cert.ReferenceIdeal.Gen.facts, Cert.Pre_finite.Gen.facts, by
  refine ⟨fun m g _ => Cert.Kernel.Gen.frame m g, fun m g _ => Cert.KernelIdeal.Gen.frame m g, fun m g _ => Cert.KernelIdeal.Gen.frame m g,
    fun m g _ => reference_frame m g, fun m g _ => reference_frame m g, IdealRules.named_const.statement Cert.KernelIdeal.κ "mask" .f32 0xF149F2CA#32 ⊥ rfl, ?_⟩
  · pair_intro
    · run_from Cert.KernelIdeal.Value.run_blocks m g
    · refine θ_run_mono (Cert.ReferenceIdeal.Value.run (F := Ideal) m' g') fun r hr c => ⟨(hr c).1.trans ?_, (hr c).2⟩
      obtain ⟨p, X, H⟩ := exists_held m hpre c
      exact value_eq m m' c H (hagree c)⟩

end Cert.Proof

end
